-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel) (hPre_drawn := hPre_drawn)
    ∧ quiescent_KernelIdeal (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal (hKernelIdeal := hKernelIdeal) (hReferenceIdeal := hReferenceIdeal) (hPre_drawn := hPre_drawn)
-- ==== Pre_drawn.lean ====
abbrev S100000x16 : Shape := ⟨2, ![100000, 16]⟩
abbrev S131072x16 : Shape := ⟨2, ![131072, 16]⟩
abbrev S3200000 : Shape := ⟨1, ![3200000]⟩
abbrev S100000 : Shape := ⟨1, ![100000]⟩
abbrev S100000x32 : Shape := ⟨2, ![100000, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  reducesTo_S100000_S_d0 : S100000.ReducesTo [0] S_
  shapeCasts_S100000x32_S3200000 : S100000x32.ShapeCasts S3200000
  reducesTo_S3200000_S_d0 : S3200000.ReducesTo [0] S_

variable [Facts]

def fn {F : FTy → Type} [FloatOps F] (main_arg0 : FVec F S100000x16 .f32) (main_arg1 : FVec F S131072x16 .f32) (main_arg2 : FVec F S3200000 .f32) (main_arg3 : IVec S100000 32) (main_arg4 : IVec S100000x32 32) (main_arg5 : IVec S100000x32 32) : IVec S_ 1 :=
  let main_c : IVec S_ 32 := constantI S_ 32 0#32
  let main_v0 : IVec S100000x32 32 := broadcastInDim S100000x32 ![] bcast_S_S100000x32 main_c
  let main_v1 : IVec S100000x32 1 := cmpi .sge main_arg4 main_v0
  let main_c_0 : IVec S_ 32 := constantI S_ 32 131072#32
  let main_v2 : IVec S100000x32 32 := broadcastInDim S100000x32 ![] bcast_S_S100000x32 main_c_0
  let main_v3 : IVec S100000x32 1 := cmpi .slt main_arg4 main_v2
  let main_v4 : IVec S100000x32 1 := andi main_v1 main_v3
  let main_c_1 : IVec S_ 1 := constantI S_ 1 1#1
  let main_v5 : IVec S_ 1 := (fun x v => Host.reduce IntOp.andi x v reducesTo_S100000x32_S_d0_1 h_S_) main_v4 main_c_1
  let main_v6 : IVec S100000 32 := iotaInDim S100000 32 0
  let main_v7 : IVec S100000 1 := cmpi .eq main_arg3 main_v6
  let main_c_2 : IVec S_ 1 := constantI S_ 1 1#1
  let main_v8 : IVec S_ 1 := (fun x v => Host.reduce IntOp.andi x v reducesTo_S100000_S_d0 h_S_) main_v7 main_c_2
  let main_v9 : IVec S_ 1 := andi main_v5 main_v8
  let main_v10 : IVec S3200000 32 := shapeCast S3200000 main_arg5 shapeCasts_S100000x32_S3200000
  let main_v11 : IVec S3200000 32 := iotaInDim S3200000 32 0
  let main_v12 : IVec S3200000 1 := cmpi .eq main_v10 main_v11
  let main_c_3 : IVec S_ 1 := constantI S_ 1 1#1
  let main_v13 : IVec S_ 1 := (fun x v => Host.reduce IntOp.andi x v reducesTo_S3200000_S_d0 h_S_) main_v12 main_c_3
  let main_v14 : IVec S_ 1 := andi main_v9 main_v13
  main_v14
-- ==== Kernel.lean ====
abbrev S100000x16 : Shape := ⟨2, ![100000, 16]⟩
abbrev S131072x16 : Shape := ⟨2, ![131072, 16]⟩
abbrev S3200000 : Shape := ⟨1, ![3200000]⟩
abbrev S100000 : Shape := ⟨1, ![100000]⟩
abbrev S100000x32 : Shape := ⟨2, ![100000, 32]⟩
abbrev S1600000 : Shape := ⟨1, ![1600000]⟩
abbrev S2x800 : Shape := ⟨2, ![2, 800]⟩
abbrev S2x800x16 : Shape := ⟨3, ![2, 800, 16]⟩
abbrev S2x400 : Shape := ⟨2, ![2, 400]⟩
abbrev S2 : Shape := ⟨1, ![2]⟩
abbrev S1x800 : Shape := ⟨2, ![1, 800]⟩
abbrev S800 : Shape := ⟨1, ![800]⟩
abbrev S1 : Shape := ⟨1, ![1]⟩
abbrev S_ : Shape := ⟨0, ![]⟩
abbrev S1x800x16 : Shape := ⟨3, ![1, 800, 16]⟩
abbrev S800x16 : Shape := ⟨2, ![800, 16]⟩
abbrev S1x400 : Shape := ⟨2, ![1, 400]⟩
abbrev S400 : Shape := ⟨1, ![400]⟩
abbrev S1x1x16 : Shape := ⟨3, ![1, 1, 16]⟩
abbrev S16 : Shape := ⟨1, ![16]⟩
abbrev S1x16 : Shape := ⟨2, ![1, 16]⟩

abbrev nBuf : Table → Nat
  | .hbm => 9
  | .local .scVector .vmem => 4
  | _ => 0

abbrev bufTy : (tb : Table) → Fin (nBuf tb) → BufTy
  | .hbm, ⟨0, _⟩ => ⟨S100000x16, .f32⟩
  | .hbm, ⟨1, _⟩ => ⟨S131072x16, .f32⟩
  | .hbm, ⟨2, _⟩ => ⟨S3200000, .f32⟩
  | .hbm, ⟨3, _⟩ => ⟨S100000, .i32⟩
  | .hbm, ⟨4, _⟩ => ⟨S100000x32, .i32⟩
  | .hbm, ⟨5, _⟩ => ⟨S100000x32, .i32⟩
  | .hbm, ⟨6, _⟩ => ⟨S3200000, .i32⟩
  | .hbm, ⟨7, _⟩ => ⟨S1600000, .f32⟩
  | .hbm, ⟨8, _⟩ => ⟨S100000x16, .f32⟩
  | .local .scVector .vmem, ⟨0, _⟩ => ⟨S2x800, .i32⟩
  | .local .scVector .vmem, ⟨1, _⟩ => ⟨S2x800, .f32⟩
  | .local .scVector .vmem, ⟨2, _⟩ => ⟨S2x800x16, .f32⟩
  | .local .scVector .vmem, ⟨3, _⟩ => ⟨S2x400, .f32⟩
  | _, _ => ⟨S100000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg1_scv : Ref sig .scVector := ⟨.hbm, 1, rfl⟩
abbrev main_arg2_scv : Ref sig .scVector := ⟨.hbm, 2, rfl⟩
abbrev main_v0_scv : Ref sig .scVector := ⟨.hbm, 6, rfl⟩
abbrev main_v1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let v3 : BitVec 32 := Scalar.addi v2 c0_i32
  let c32_i32 : BitVec 32 := 32#32
  let v4 : BitVec 32 := Scalar.muli v3 c32_i32
  ![v4.toNat]
@[reducible] def k0_t1_loop : Scf.Loop 32 :=
  let c0_i32_35 : BitVec 32 := 0#32
  let c125_i32 : BitVec 32 := 125#32
  let v60 : BitVec 32 := Scalar.addi c0_i32_35 c125_i32
  let c1_i32_36 : BitVec 32 := 1#32
  ⟨c0_i32_35, v60, c1_i32_36⟩
def k0_cond1 (k0_t1 : Fin k0_t1_loop.trips) : BitVec 1 :=
  let c0_i32_35 : BitVec 32 := 0#32
  let c1_i32_36 : BitVec 32 := 1#32
  let arg14 : BitVec 32 := Scf.iv c0_i32_35 c1_i32_36 k0_t1
  let c1_i32_49 : BitVec 32 := 1#32
  let v83 : BitVec 32 := Scalar.addi arg14 c1_i32_49
  let c125_i32_50 : BitVec 32 := 125#32
  let v84 : BitVec 1 := Scalar.cmpi .slt v83 c125_i32_50
  let v85 : BitVec 32 := Scalar.extui v84
  let c0_i32_51 : BitVec 32 := 0#32
  let v86 : BitVec 1 := Scalar.cmpi .ne v85 c0_i32_51
  v86

def k0_off2 (k0_t1 : Fin k0_t1_loop.trips) : Fin 2 → Nat :=
  let c1_i32_48 : BitVec 32 := 1#32
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let v82 : BitVec 32 := Scalar.subi c1_i32_48 v81
  let c0_i32_78 : BitVec 32 := 0#32
  ![v82.toNat, 0]
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32_35 : BitVec 32 := 0#32
  let c1_i32_36 : BitVec 32 := 1#32
  let arg14 : BitVec 32 := Scf.iv c0_i32_35 c1_i32_36 k0_t1
  let c1_i32_75 : BitVec 32 := 1#32
  let v124 : BitVec 32 := Scalar.addi arg14 c1_i32_75
  let c25_i32_76 : BitVec 32 := 25#32
  let v125 : BitVec 32 := Scalar.muli v124 c25_i32_76
  let v126 : BitVec 32 := Scalar.addi v2 v125
  let c32_i32_77 : BitVec 32 := 32#32
  let v127 : BitVec 32 := Scalar.muli v126 c32_i32_77
  ![v127.toNat]
def k0_off4 (k0_t1 : Fin k0_t1_loop.trips) : Fin 1 → Nat :=
  let c1_i32_48 : BitVec 32 := 1#32
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let v82 : BitVec 32 := Scalar.subi c1_i32_48 v81
  ![v82.toNat]
def k0_off5 (k0_t1 : Fin k0_t1_loop.trips) : Fin 3 → Nat :=
  let c1_i32_48 : BitVec 32 := 1#32
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let v82 : BitVec 32 := Scalar.subi c1_i32_48 v81
  let c0_i32_80 : BitVec 32 := 0#32
  let c0_i32_81 : BitVec 32 := 0#32
  ![v82.toNat, 0, 0]
def k0_off6 (k0_t1 : Fin k0_t1_loop.trips) : Fin 3 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let c0_i32_52 : BitVec 32 := 0#32
  let c0_i32_53 : BitVec 32 := 0#32
  ![v81.toNat, 0, 0]
def k0_off7 (k0_t1 : Fin k0_t1_loop.trips) : Fin 2 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let c0_i32_54 : BitVec 32 := 0#32
  ![v81.toNat, 0]
def k0_off8 (k0_t1 : Fin k0_t1_loop.trips) : Fin 1 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  ![v81.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32_35 : BitVec 32 := 0#32
  let c1_i32_36 : BitVec 32 := 1#32
  let arg14 : BitVec 32 := Scf.iv c0_i32_35 c1_i32_36 k0_t1
  let c25_i32_57 : BitVec 32 := 25#32
  let v94 : BitVec 32 := Scalar.muli arg14 c25_i32_57
  let v95 : BitVec 32 := Scalar.addi v2 v94
  let c32_i32_58 : BitVec 32 := 32#32
  let v96 : BitVec 32 := Scalar.muli v95 c32_i32_58
  ![v96.toNat]
def k0_cond2 (k0_t1 : Fin k0_t1_loop.trips) : BitVec 1 :=
  let c0_i32_35 : BitVec 32 := 0#32
  let c1_i32_36 : BitVec 32 := 1#32
  let arg14 : BitVec 32 := Scf.iv c0_i32_35 c1_i32_36 k0_t1
  let c2_i32_61 : BitVec 32 := 2#32
  let v105 : BitVec 1 := Scalar.cmpi .sge arg14 c2_i32_61
  let v106 : BitVec 32 := Scalar.extui v105
  let c0_i32_62 : BitVec 32 := 0#32
  let v107 : BitVec 1 := Scalar.cmpi .ne v106 c0_i32_62
  v107

def k0_off10 (k0_t1 : Fin k0_t1_loop.trips) : Fin 2 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let c0_i32_78 : BitVec 32 := 0#32
  ![v81.toNat, 0]
def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32_35 : BitVec 32 := 0#32
  let c1_i32_36 : BitVec 32 := 1#32
  let arg14 : BitVec 32 := Scf.iv c0_i32_35 c1_i32_36 k0_t1
  let c2_i32_75 : BitVec 32 := 2#32
  let v124 : BitVec 32 := Scalar.subi arg14 c2_i32_75
  let c25_i32_76 : BitVec 32 := 25#32
  let v125 : BitVec 32 := Scalar.muli v124 c25_i32_76
  let v126 : BitVec 32 := Scalar.addi v2 v125
  let c16_i32_77 : BitVec 32 := 16#32
  let v127 : BitVec 32 := Scalar.muli v126 c16_i32_77
  ![v127.toNat]
def k0_off12 (k0_t1 : Fin k0_t1_loop.trips) : Fin 1 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  ![v81.toNat]
@[reducible] def k0_t2_loop : Scf.Loop 32 :=
  let c0_i32_64 : BitVec 32 := 0#32
  let c25_i32_65 : BitVec 32 := 25#32
  let v108 : BitVec 32 := Scalar.addi c0_i32_64 c25_i32_65
  let c1_i32_66 : BitVec 32 := 1#32
  ⟨c0_i32_64, v108, c1_i32_66⟩
def k0_off13 (k0_t1 : Fin k0_t1_loop.trips) (k0_t2 : Fin k0_t2_loop.trips) (c0_i32_76 : BitVec 32) : Fin 3 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let v126 : Index := Scalar.indexCast v81
  let c0_i32_64 : BitVec 32 := 0#32
  let c1_i32_66 : BitVec 32 := 1#32
  let arg15 : BitVec 32 := Scf.iv c0_i32_64 c1_i32_66 k0_t2
  let c32_i32_75 : BitVec 32 := 32#32
  let v124 : BitVec 32 := Scalar.muli arg15 c32_i32_75
  let v125 : BitVec 32 := Scalar.addi v124 c0_i32_76
  let v127 : Index := Scalar.indexCast v125
  let c0 : Index := 0#32
  ![v126.toNat, v127.toNat, 0]
def k0_off14 (k0_t1 : Fin k0_t1_loop.trips) (k0_t2 : Fin k0_t2_loop.trips) : Fin 2 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let v348 : Index := Scalar.indexCast v81
  let c0_i32_64 : BitVec 32 := 0#32
  let c1_i32_66 : BitVec 32 := 1#32
  let arg15 : BitVec 32 := Scf.iv c0_i32_64 c1_i32_66 k0_t2
  let c32_i32_143 : BitVec 32 := 32#32
  let v347 : BitVec 32 := Scalar.muli arg15 c32_i32_143
  let v349 : Index := Scalar.indexCast v347
  ![v348.toNat, v349.toNat]
def k0_off15 (k0_t1 : Fin k0_t1_loop.trips) (k0_t2 : Fin k0_t2_loop.trips) : Fin 2 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let v354 : Index := Scalar.indexCast v81
  let c0_i32_64 : BitVec 32 := 0#32
  let c1_i32_66 : BitVec 32 := 1#32
  let arg15 : BitVec 32 := Scf.iv c0_i32_64 c1_i32_66 k0_t2
  let c32_i32_144 : BitVec 32 := 32#32
  let v352 : BitVec 32 := Scalar.muli arg15 c32_i32_144
  let c16_i32_145 : BitVec 32 := 16#32
  let v353 : BitVec 32 := Scalar.addi v352 c16_i32_145
  let v355 : Index := Scalar.indexCast v353
  ![v354.toNat, v355.toNat]
def k0_off16 (k0_t1 : Fin k0_t1_loop.trips) (k0_t2 : Fin k0_t2_loop.trips) : Fin 2 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let v586 : Index := Scalar.indexCast v81
  let c0_i32_64 : BitVec 32 := 0#32
  let c1_i32_66 : BitVec 32 := 1#32
  let arg15 : BitVec 32 := Scf.iv c0_i32_64 c1_i32_66 k0_t2
  let c16_i32_146 : BitVec 32 := 16#32
  let v585 : BitVec 32 := Scalar.muli arg15 c16_i32_146
  let v587 : Index := Scalar.indexCast v585
  ![v586.toNat, v587.toNat]
def k0_off17 (k0_t1 : Fin k0_t1_loop.trips) : Fin 2 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let c0_i32_70 : BitVec 32 := 0#32
  ![v81.toNat, 0]
def k0_off18 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32_35 : BitVec 32 := 0#32
  let c1_i32_36 : BitVec 32 := 1#32
  let arg14 : BitVec 32 := Scf.iv c0_i32_35 c1_i32_36 k0_t1
  let c25_i32_68 : BitVec 32 := 25#32
  let v109 : BitVec 32 := Scalar.muli arg14 c25_i32_68
  let v110 : BitVec 32 := Scalar.addi v2 v109
  let c16_i32_69 : BitVec 32 := 16#32
  let v111 : BitVec 32 := Scalar.muli v110 c16_i32_69
  ![v111.toNat]
def k0_cond3 (k0_t1 : Fin k0_t1_loop.trips) : BitVec 1 :=
  let c0_i32_35 : BitVec 32 := 0#32
  let c1_i32_36 : BitVec 32 := 1#32
  let arg14 : BitVec 32 := Scf.iv c0_i32_35 c1_i32_36 k0_t1
  let c2_i32_72 : BitVec 32 := 2#32
  let v120 : BitVec 32 := Scalar.addi arg14 c2_i32_72
  let c125_i32_73 : BitVec 32 := 125#32
  let v121 : BitVec 1 := Scalar.cmpi .slt v120 c125_i32_73
  let v122 : BitVec 32 := Scalar.extui v121
  let c0_i32_74 : BitVec 32 := 0#32
  let v123 : BitVec 1 := Scalar.cmpi .ne v122 c0_i32_74
  v123

def k0_off19 (k0_t1 : Fin k0_t1_loop.trips) : Fin 2 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  let c0_i32_78 : BitVec 32 := 0#32
  ![v81.toNat, 0]
def k0_off20 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32_35 : BitVec 32 := 0#32
  let c1_i32_36 : BitVec 32 := 1#32
  let arg14 : BitVec 32 := Scf.iv c0_i32_35 c1_i32_36 k0_t1
  let c2_i32_75 : BitVec 32 := 2#32
  let v124 : BitVec 32 := Scalar.addi arg14 c2_i32_75
  let c25_i32_76 : BitVec 32 := 25#32
  let v125 : BitVec 32 := Scalar.muli v124 c25_i32_76
  let v126 : BitVec 32 := Scalar.addi v2 v125
  let c32_i32_77 : BitVec 32 := 32#32
  let v127 : BitVec 32 := Scalar.muli v126 c32_i32_77
  ![v127.toNat]
def k0_off21 (k0_t1 : Fin k0_t1_loop.trips) : Fin 1 → Nat :=
  let c0_i32_35 : BitVec 32 := 0#32
  let c1_i32_36 : BitVec 32 := 1#32
  let arg14 : BitVec 32 := Scf.iv c0_i32_35 c1_i32_36 k0_t1
  let c2_i32_47 : BitVec 32 := 2#32
  let v81 : BitVec 32 := Scalar.remsi arg14 c2_i32_47
  ![v81.toNat]
def k0_off22 (i : grid0.Coords) (c3075_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let v61 : BitVec 32 := Scalar.addi v2 c3075_i32
  let c16_i32 : BitVec 32 := 16#32
  let v62 : BitVec 32 := Scalar.muli v61 c16_i32
  ![v62.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x16 : Shape := ⟨2, ![100000, 16]⟩
abbrev S131072x16 : Shape := ⟨2, ![131072, 16]⟩
abbrev S3200000 : Shape := ⟨1, ![3200000]⟩
abbrev S100000 : Shape := ⟨1, ![100000]⟩
abbrev S100000x32 : Shape := ⟨2, ![100000, 32]⟩
abbrev S_ : Shape := ⟨0, ![]⟩
abbrev S100000x32x1 : Shape := ⟨3, ![100000, 32, 1]⟩
abbrev S100000x32x16 : Shape := ⟨3, ![100000, 32, 16]⟩
abbrev S100000x1x16 : Shape := ⟨3, ![100000, 1, 16]⟩
abbrev S100000x1 : Shape := ⟨2, ![100000, 1]⟩

abbrev nBuf : Space → Nat
  | .hbm => 50
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S131072x16, .f32⟩
  | .hbm, ⟨2, _⟩ => ⟨S3200000, .f32⟩
  | .hbm, ⟨3, _⟩ => ⟨S100000, .i32⟩
  | .hbm, ⟨4, _⟩ => ⟨S100000x32, .i32⟩
  | .hbm, ⟨5, _⟩ => ⟨S100000x32, .i32⟩
  | .hbm, ⟨6, _⟩ => ⟨S_, .i32⟩
  | .hbm, ⟨7, _⟩ => ⟨S100000x32, .i32⟩
  | .hbm, ⟨8, _⟩ => ⟨S100000x32, .i1⟩
  | .hbm, ⟨9, _⟩ => ⟨S_, .i32⟩
  | .hbm, ⟨10, _⟩ => ⟨S100000x32, .i32⟩
  | .hbm, ⟨11, _⟩ => ⟨S100000x32, .i32⟩
  | .hbm, ⟨12, _⟩ => ⟨S100000x32, .i32⟩
  | .hbm, ⟨13, _⟩ => ⟨S100000x32x1, .i32⟩
  | .hbm, ⟨14, _⟩ => ⟨S100000x32x16, .f32⟩
  | .hbm, ⟨15, _⟩ => ⟨S_, .f32⟩
  | .hbm, ⟨16, _⟩ => ⟨S100000x16, .f32⟩
  | .hbm, ⟨17, _⟩ => ⟨S100000x1x16, .f32⟩
  | .hbm, ⟨18, _⟩ => ⟨S_, .i32⟩
  | .hbm, ⟨19, _⟩ => ⟨S100000x32, .i32⟩
  | .hbm, ⟨20, _⟩ => ⟨S100000x32, .i1⟩
  | .hbm, ⟨21, _⟩ => ⟨S_, .i32⟩
  | .hbm, ⟨22, _⟩ => ⟨S100000x32, .i32⟩
  | .hbm, ⟨23, _⟩ => ⟨S100000x32, .i32⟩
  | .hbm, ⟨24, _⟩ => ⟨S100000x32, .i32⟩
  | .hbm, ⟨25, _⟩ => ⟨S100000x32x1, .i32⟩
  | .hbm, ⟨26, _⟩ => ⟨S100000x32, .f32⟩
  | .hbm, ⟨27, _⟩ => ⟨S100000x32x1, .f32⟩
  | .hbm, ⟨28, _⟩ => ⟨S100000x32x16, .f32⟩
  | .hbm, ⟨29, _⟩ => ⟨S100000x32x16, .f32⟩
  | .hbm, ⟨30, _⟩ => ⟨S100000x32x16, .f32⟩
  | .hbm, ⟨31, _⟩ => ⟨S100000x32x16, .f32⟩
  | .hbm, ⟨32, _⟩ => ⟨S100000x32x16, .f32⟩
  | .hbm, ⟨33, _⟩ => ⟨S_, .f32⟩
  | .hbm, ⟨34, _⟩ => ⟨S100000x16, .f32⟩
  | .hbm, ⟨35, _⟩ => ⟨S_, .f32⟩
  | .hbm, ⟨36, _⟩ => ⟨S100000x16, .f32⟩
  | .hbm, ⟨37, _⟩ => ⟨S100000x16, .f32⟩
  | .hbm, ⟨38, _⟩ => ⟨S100000x16, .f32⟩
  | .hbm, ⟨39, _⟩ => ⟨S100000x16, .f32⟩
  | .hbm, ⟨40, _⟩ => ⟨S100000x16, .f32⟩
  | .hbm, ⟨41, _⟩ => ⟨S_, .i32⟩
  | .hbm, ⟨42, _⟩ => ⟨S100000, .i32⟩
  | .hbm, ⟨43, _⟩ => ⟨S100000, .i1⟩
  | .hbm, ⟨44, _⟩ => ⟨S_, .i32⟩
  | .hbm, ⟨45, _⟩ => ⟨S100000, .i32⟩
  | .hbm, ⟨46, _⟩ => ⟨S100000, .i32⟩
  | .hbm, ⟨47, _⟩ => ⟨S100000, .i32⟩
  | .hbm, ⟨48, _⟩ => ⟨S100000x1, .i32⟩
  | .hbm, ⟨49, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Contents.lean ====
/-
  What one node's sixteen results are, as the tile computes them, and what every buffer of a tile holds at each of its
  125 chunks: the contents functions the run's invariant names. A chunk is 25 nodes; a node has 32 children rows of 16.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ViewIndex
public import Idealize.ShloMosaic.Lib.ValueIdxCore
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)

variable {F : FTy → Type} [FloatOps F]

/-- One node's sixteen results, from its 32 gathered rows `r` and its 32 weights in two halves `w0`, `w1`: the largest
    entry of each column over the rows, the weighted sum of the exponentials of the rows' differences from it, that
    sum's logarithm (held away from zero), and the largest entry added back. -/
def nodeOut (r : Fin 32 → Vec F S1x1x16 .f32) (w0 w1 : Vec F S1x16 .f32) : FVec F S1x16 .f32 :=
  let v128 : Vec F S1x1x16 .f32 := r 0
  let v134 : Vec F S1x1x16 .f32 := r 1
  let v140 : Vec F S1x1x16 .f32 := r 2
  let v146 : Vec F S1x1x16 .f32 := r 3
  let v152 : Vec F S1x1x16 .f32 := r 4
  let v158 : Vec F S1x1x16 .f32 := r 5
  let v129 : FVec F S16 .f32 := k0_pay1 v128
  let v135 : FVec F S16 .f32 := k0_pay2 v134
  let v141 : FVec F S16 .f32 := k0_pay3 v140
  let v147 : FVec F S16 .f32 := k0_pay4 v146
  let v153 : FVec F S16 .f32 := k0_pay5 v152
  let v159 : FVec F S16 .f32 := k0_pay6 v158
  let v164 : Vec F S1x1x16 .f32 := r 6
  let v170 : Vec F S1x1x16 .f32 := r 7
  let v176 : Vec F S1x1x16 .f32 := r 8
  let v182 : Vec F S1x1x16 .f32 := r 9
  let v188 : Vec F S1x1x16 .f32 := r 10
  let v194 : Vec F S1x1x16 .f32 := r 11
  let v200 : Vec F S1x1x16 .f32 := r 12
  let v165 : FVec F S16 .f32 := k0_pay7 v164
  let v171 : FVec F S16 .f32 := k0_pay8 v170
  let v177 : FVec F S16 .f32 := k0_pay9 v176
  let v183 : FVec F S16 .f32 := k0_pay10 v182
  let v189 : FVec F S16 .f32 := k0_pay11 v188
  let v195 : FVec F S16 .f32 := k0_pay12 v194
  let v201 : FVec F S16 .f32 := k0_pay13 v200
  let v206 : Vec F S1x1x16 .f32 := r 13
  let v212 : Vec F S1x1x16 .f32 := r 14
  let v218 : Vec F S1x1x16 .f32 := r 15
  let v224 : Vec F S1x1x16 .f32 := r 16
  let v230 : Vec F S1x1x16 .f32 := r 17
  let v236 : Vec F S1x1x16 .f32 := r 18
  let v242 : Vec F S1x1x16 .f32 := r 19
  let v207 : FVec F S16 .f32 := k0_pay14 v206
  let v213 : FVec F S16 .f32 := k0_pay15 v212
  let v219 : FVec F S16 .f32 := k0_pay16 v218
  let v225 : FVec F S16 .f32 := k0_pay17 v224
  let v231 : FVec F S16 .f32 := k0_pay18 v230
  let v237 : FVec F S16 .f32 := k0_pay19 v236
  let v248 : Vec F S1x1x16 .f32 := r 20
  let v254 : Vec F S1x1x16 .f32 := r 21
  let v260 : Vec F S1x1x16 .f32 := r 22
  let v266 : Vec F S1x1x16 .f32 := r 23
  let v272 : Vec F S1x1x16 .f32 := r 24
  let v278 : Vec F S1x1x16 .f32 := r 25
  let v243 : FVec F S16 .f32 := k0_pay20 v242
  let v249 : FVec F S16 .f32 := k0_pay21 v248
  let v255 : FVec F S16 .f32 := k0_pay22 v254
  let v261 : FVec F S16 .f32 := k0_pay23 v260
  let v267 : FVec F S16 .f32 := k0_pay24 v266
  let v273 : FVec F S16 .f32 := k0_pay25 v272
  let v279 : FVec F S16 .f32 := k0_pay26 v278
  let v284 : Vec F S1x1x16 .f32 := r 26
  let v290 : Vec F S1x1x16 .f32 := r 27
  let v296 : Vec F S1x1x16 .f32 := r 28
  let v302 : Vec F S1x1x16 .f32 := r 29
  let v308 : Vec F S1x1x16 .f32 := r 30
  let v314 : Vec F S1x1x16 .f32 := r 31
  let v285 : FVec F S16 .f32 := k0_pay27 v284
  let v291 : FVec F S16 .f32 := k0_pay28 v290
  let v297 : FVec F S16 .f32 := k0_pay29 v296
  let v303 : FVec F S16 .f32 := k0_pay30 v302
  let v309 : FVec F S16 .f32 := k0_pay31 v308
  let v315 : FVec F S16 .f32 := k0_pay32 v314
  let v316 : FVec F S16 .f32 := k0_pay33 v129 v135
  let v317 : FVec F S16 .f32 := k0_pay34 v141 v147
  let v318 : FVec F S16 .f32 := k0_pay35 v153 v159
  let v319 : FVec F S16 .f32 := k0_pay36 v165 v171
  let v320 : FVec F S16 .f32 := k0_pay37 v177 v183
  let v321 : FVec F S16 .f32 := k0_pay38 v189 v195
  let v322 : FVec F S16 .f32 := k0_pay39 v201 v207
  let v323 : FVec F S16 .f32 := k0_pay40 v213 v219
  let v324 : FVec F S16 .f32 := k0_pay41 v225 v231
  let v325 : FVec F S16 .f32 := k0_pay42 v237 v243
  let v326 : FVec F S16 .f32 := k0_pay43 v249 v255
  let v350 : Vec F S1x16 .f32 := w0
  let v356 : Vec F S1x16 .f32 := w1
  let v346 : FVec F S16 .f32 := k0_pay44 v261 v267 v273 v279 v285 v291 v297 v303 v309 v315 v316 v317 v318 v319 v320 v321 v322 v323 v324 v325 v326
  let v351 : FVec F S16 .f32 := k0_pay45 v350
  let v357 : FVec F S16 .f32 := k0_pay46 v356
  let v363 : FVec F S16 .f32 := k0_pay47 v129 v261 v267 v273 v279 v285 v291 v297 v303 v309 v315 v316 v317 v318 v319 v320 v321 v322 v323 v324 v325 v326 v350
  let v369 : FVec F S16 .f32 := k0_pay48 v135 v261 v267 v273 v279 v285 v291 v297 v303 v309 v315 v316 v317 v318 v319 v320 v321 v322 v323 v324 v325 v326 v350
  let v375 : FVec F S16 .f32 := k0_pay49 v141 v261 v267 v273 v279 v285 v291 v297 v303 v309 v315 v316 v317 v318 v319 v320 v321 v322 v323 v324 v325 v326 v350
  let v381 : FVec F S16 .f32 := k0_pay50 v147 v261 v267 v273 v279 v285 v291 v297 v303 v309 v315 v316 v317 v318 v319 v320 v321 v322 v323 v324 v325 v326 v350
  let v383 : F .f32 := k0_pay51 v350
  let v387 : FVec F S16 .f32 := k0_pay52 v153 v346 v383
  let v393 : FVec F S16 .f32 := k0_pay53 v159 v346 v351
  let v399 : FVec F S16 .f32 := k0_pay54 v165 v346 v351
  let v405 : FVec F S16 .f32 := k0_pay55 v171 v346 v351
  let v411 : FVec F S16 .f32 := k0_pay56 v177 v346 v351
  let v417 : FVec F S16 .f32 := k0_pay57 v183 v346 v351
  let v423 : FVec F S16 .f32 := k0_pay58 v189 v346 v351
  let v429 : FVec F S16 .f32 := k0_pay59 v195 v346 v351
  let v435 : FVec F S16 .f32 := k0_pay60 v201 v346 v351
  let v441 : FVec F S16 .f32 := k0_pay61 v207 v346 v351
  let v443 : F .f32 := k0_pay62 v351
  let v447 : FVec F S16 .f32 := k0_pay63 v213 v346 v443
  let v453 : FVec F S16 .f32 := k0_pay64 v219 v346 v351
  let v459 : FVec F S16 .f32 := k0_pay65 v225 v346 v357
  let v465 : FVec F S16 .f32 := k0_pay66 v231 v346 v357
  let v471 : FVec F S16 .f32 := k0_pay67 v237 v346 v357
  let v477 : FVec F S16 .f32 := k0_pay68 v243 v346 v357
  let v483 : FVec F S16 .f32 := k0_pay69 v249 v346 v357
  let v489 : FVec F S16 .f32 := k0_pay70 v255 v346 v357
  let v495 : FVec F S16 .f32 := k0_pay71 v261 v346 v357
  let v501 : FVec F S16 .f32 := k0_pay72 v267 v346 v357
  let v503 : F .f32 := k0_pay73 v357
  let v531 : FVec F S16 .f32 := k0_pay74 v297 v346 v357
  let v537 : FVec F S16 .f32 := k0_pay75 v303 v346 v357
  let v543 : FVec F S16 .f32 := k0_pay76 v309 v346 v357
  let v549 : FVec F S16 .f32 := k0_pay77 v315 v346 v357
  let v550 : FVec F S16 .f32 := k0_pay78 v363 v369
  let v551 : FVec F S16 .f32 := k0_pay79 v375 v381
  let v552 : FVec F S16 .f32 := k0_pay80 v387 v393
  let v553 : FVec F S16 .f32 := k0_pay81 v399 v405
  let v554 : FVec F S16 .f32 := k0_pay82 v411 v417
  let v555 : FVec F S16 .f32 := k0_pay83 v423 v429
  let v556 : FVec F S16 .f32 := k0_pay84 v435 v441
  let v557 : FVec F S16 .f32 := k0_pay85 v447 v453
  let v558 : FVec F S16 .f32 := k0_pay86 v459 v465
  let v559 : FVec F S16 .f32 := k0_pay87 v471 v477
  let v560 : FVec F S16 .f32 := k0_pay88 v483 v489
  let v561 : FVec F S16 .f32 := k0_pay89 v495 v501
  let v562 : FVec F S16 .f32 := k0_pay90 v273 v279 v346 v357 v503
  let v563 : FVec F S16 .f32 := k0_pay91 v285 v291 v346 v357
  let v579 : FVec F S16 .f32 := k0_pay92 v531 v537 v543 v549 v558 v559 v560 v561 v562 v563
  k0_pay93 v346 v550 v551 v552 v553 v554 v555 v556 v557 v579

/-! ## Places in the flat arrays, total in a natural number -/

/-- Place `n` of the flat array of child numbers and of the weights. -/
abbrev at3 (n : ℕ) : S3200000.Idx := ix1 ⟨n % 3200000, Nat.mod_lt _ (by decide)⟩
/-- Place `n` of the flat array of results. -/
abbrev at16 (n : ℕ) : S1600000.Idx := ix1 ⟨n % 1600000, Nat.mod_lt _ (by decide)⟩
/-- Row `n`, lane `l` of the table of elements. -/
abbrev at2 (n : ℕ) (l : Fin 16) : S131072x16.Idx := ix2 ⟨n % 131072, Nat.mod_lt _ (by decide)⟩ l

/-! ## The contents -/

section Contents

variable (el : S131072x16.Idx → F .f32) (pr : S3200000.Idx → F .f32) (ci : S3200000.Idx → BitVec 32)

/-- Child `c` of node `N`: its row of the table, as a load of it gives it. -/
def rowV (N : ℕ) (c : Fin 32) : Vec F S1x1x16 .f32 := fun x => el (at2 (ci (at3 (N * 32 + c.val))).toNat (x 2))
/-- The 16 weights of node `N` from its weight `h` on, as a load of them gives them. -/
def wV (N h : ℕ) : Vec F S1x16 .f32 := fun x => pr (at3 (N * 32 + h + (x 1).val))

/-- Node `N`'s sixteen results. -/
def nodeV (N : ℕ) : FVec F S1x16 .f32 := nodeOut (rowV el ci N) (wV pr N 0) (wV pr N 16)

/-- The flat array of results the kernel leaves. -/
def outV : S1600000.Idx → F .f32 := fun y => nodeV el pr ci ((y 0).val / 16) (ix2 (0 : Fin 1) (⟨(y 0).val % 16, Nat.mod_lt _ (by decide)⟩ : Fin 16))

/-- What a slot of the child-number buffer holds once the 800 child numbers from place `n` on have landed in it. -/
def ciC (n : ℕ) : S2x800.Idx → BitVec 32 := fun x => ci (at3 (n + (x 1).val))
/-- What a slot of the weight buffer holds once the 800 weights from place `n` on have landed in it. -/
def prC (n : ℕ) : S2x800.Idx → F .f32 := fun x => pr (at3 (n + (x 1).val))
/-- What a slot of the row buffer holds once the rows of the 800 child numbers from place `n` on have landed in it. -/
def rowsC (n : ℕ) : S2x800x16.Idx → F .f32 := fun x => el (at2 (ci (at3 (n + (x 1).val))).toNat (x 2))
/-- What a slot of the result buffer holds once the 400 results from place `n` on have been computed. -/
def ouC (n : ℕ) : S2x400.Idx → F .f32 := fun x => outV el pr ci (at16 (n + (x 1).val))

end Contents

end Cert.Proof.Tile

end
-- ==== Proof.Views.lean ====
/-
  The pieces of memory a tile's copies and loads go through, each read at an index: a slot (one of the two rows) of
  each scratch buffer, a stretch of a flat array in the large memory, the table of elements whole, and the semaphores of
  the four pairs. The offsets are any that equal the closed form named, so that one lemma serves every access.
-/
module

public import proofs.«01_k».proof.Proof.Contents

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)

variable {F : FTy → Type}

/-! ## The buffers as a tile names them -/

abbrev elH : Memref sig .scVector .hbm S131072x16 .f32 := Memref.whole main_arg1_scv
abbrev prH : Memref sig .scVector .hbm S3200000 .f32 := Memref.whole main_arg2_scv
abbrev ciH : Memref sig .scVector .hbm S3200000 .i32 := Memref.whole main_v0_scv
abbrev ouH : Memref sig .scVector .hbm S1600000 .f32 := Memref.whole main_v1_scv
abbrev ciB : Memref sig .scVector .vmem S2x800 .i32 := Memref.whole cc0_scratch0
abbrev prB : Memref sig .scVector .vmem S2x800 .f32 := Memref.whole cc0_scratch1
abbrev roB : Memref sig .scVector .vmem S2x800x16 .f32 := Memref.whole cc0_scratch2
abbrev ouB : Memref sig .scVector .vmem S2x400 .f32 := Memref.whole cc0_scratch3

/-! ## Slots and stretches -/

/-- The elements of slot `p` of a pair of 800-word buffers. -/
def slot2 (p : ℕ) : Finset S2x800.Idx := Finset.univ.filter fun x => (x 0).val = p
/-- The elements of slot `p` of the pair of row buffers. -/
def slotR (p : ℕ) : Finset S2x800x16.Idx := Finset.univ.filter fun x => (x 0).val = p
/-- The elements of slot `p` of the pair of result buffers. -/
def slotO (p : ℕ) : Finset S2x400.Idx := Finset.univ.filter fun x => (x 0).val = p
/-- Chunk `n` of the flat array of results: 400 places. -/
def chunk (n : ℕ) : Finset S1600000.Idx := Finset.univ.filter fun x => (x 0).val / 400 = n

theorem mem_slot2 {p : ℕ} {x : S2x800.Idx} : x ∈ slot2 p ↔ (x 0).val = p := by simp [slot2]
theorem mem_slotR {p : ℕ} {x : S2x800x16.Idx} : x ∈ slotR p ↔ (x 0).val = p := by simp [slotR]
theorem mem_slotO {p : ℕ} {x : S2x400.Idx} : x ∈ slotO p ↔ (x 0).val = p := by simp [slotO]
theorem mem_chunk {n : ℕ} {x : S1600000.Idx} : x ∈ chunk n ↔ (x 0).val / 400 = n := by simp [chunk]

section Slot

variable {e : EltTy}

/-- Slot `off 0` of a pair of 800-word buffers, as one row of 800. -/
abbrev row2 (m : Memref sig .scVector .vmem S2x800 e) (off : Fin 2 → ℕ) (inb : ∀ a, off a + S1x800.size a ≤ S2x800.size a) :
    Memref sig .scVector .vmem S800 e :=
  (m.slice (Rect.unit (s := S2x800) off S1x800.size inb) (fun _ => rfl)).squeeze S800 squeezes_S1x800_S800
/-- Slot `off 0` of the pair of row buffers, as 800 rows of 16. -/
abbrev rowR (m : Memref sig .scVector .vmem S2x800x16 e) (off : Fin 3 → ℕ) (inb : ∀ a, off a + S1x800x16.size a ≤ S2x800x16.size a) :
    Memref sig .scVector .vmem S800x16 e :=
  (m.slice (Rect.unit (s := S2x800x16) off S1x800x16.size inb) (fun _ => rfl)).squeeze S800x16 squeezes_S1x800x16_S800x16
/-- Slot `off 0` of the pair of result buffers, as one row of 400. -/
abbrev rowO (m : Memref sig .scVector .vmem S2x400 e) (off : Fin 2 → ℕ) (inb : ∀ a, off a + S1x400.size a ≤ S2x400.size a) :
    Memref sig .scVector .vmem S400 e :=
  (m.slice (Rect.unit (s := S2x400) off S1x400.size inb) (fun _ => rfl)).squeeze S400 squeezes_S1x400_S400
/-- 800 places of a flat array from `off 0` on. -/
abbrev st3 (m : Memref sig .scVector .hbm S3200000 e) (off : Fin 1 → ℕ) (inb : ∀ a, off a + S800.size a ≤ S3200000.size a) :
    Memref sig .scVector .hbm S800 e :=
  m.slice (Rect.unit (s := S3200000) off S800.size inb) (fun _ => rfl)
/-- 400 places of the flat array of results from `off 0` on. -/
abbrev st16 (m : Memref sig .scVector .hbm S1600000 e) (off : Fin 1 → ℕ) (inb : ∀ a, off a + S400.size a ≤ S1600000.size a) :
    Memref sig .scVector .hbm S400 e :=
  m.slice (Rect.unit (s := S1600000) off S400.size inb) (fun _ => rfl)
/-- The table of elements, all of it. -/
abbrev elAll : Memref sig .scVector .hbm S131072x16 .f32 :=
  elH.slice (Rect.unit (s := S131072x16) ![0, 0] S131072x16.size inb_S131072x16_S131072x16_0_0) (fun _ => rfl)

/-- Semaphore `off 0` of a pair. -/
abbrev semAt (A : DmaSems sig S2) (off : Fin 1 → ℕ) (inb : ∀ a, off a + S1.size a ≤ S2.size a) : DmaSem sig :=
  ((A.slice (Rect.unit (s := S2) off S1.size inb)).squeeze S_ squeezes_S1_S_).sem

/-- Semaphore `p` of a pair. -/
def semP (A : DmaSems sig S2) (p : ℕ) : DmaSem sig := semAt A ![p % 2] (by intro a; match a with | 0 => exact (by show p % 2 + 1 ≤ 2; omega))

theorem semAt_eq (A : DmaSems sig S2) {off : Fin 1 → ℕ} (inb) {p : ℕ} (h : off = ![p]) (hp : p < 2) : semAt A off inb = semP A p := by
  subst h
  have h2 : p % 2 = p := Nat.mod_eq_of_lt hp
  unfold semP semAt
  rw [SemArray.slice_unit_congr A (show ![p] = ![p % 2] by rw [h2])]

variable {p n : ℕ}

/-- Element `x` of a slot's row is the pair's element at the slot and `x`. -/
theorem emb_row2 {m : Memref sig .scVector .vmem S2x800 e} {off : Fin 2 → ℕ} {inb} (h : off = ![p, 0]) (hp : p < 2) (x : S800.Idx) :
    (row2 m off inb).view.emb x = m.view.emb (ix2 (⟨p, hp⟩ : Fin 2) (x 0)) := by
  subst h
  show m.view.emb ((Rect.unit (s := S2x800) ![p, 0] S1x800.size inb).emb (Shape.reshapeEquiv squeezes_S1x800_S800.numel_eq x)) = _
  congr 1
  rw [Shape.reshapeEquiv_cons_one]
  funext a
  apply Fin.ext
  match a with
  | 0 => exact (Rect.emb_apply _ _ _).trans (show p + 1 * 0 = p by omega)
  | 1 => exact (Rect.emb_apply _ _ _).trans (show 0 + 1 * (x 0).val = (x 0).val by omega)

theorem emb_rowR {m : Memref sig .scVector .vmem S2x800x16 e} {off : Fin 3 → ℕ} {inb} (h : off = ![p, 0, 0]) (hp : p < 2) (x : S800x16.Idx) :
    (rowR m off inb).view.emb x = m.view.emb (ix3 (⟨p, hp⟩ : Fin 2) (x 0) (x 1)) := by
  subst h
  show m.view.emb ((Rect.unit (s := S2x800x16) ![p, 0, 0] S1x800x16.size inb).emb (Shape.reshapeEquiv squeezes_S1x800x16_S800x16.numel_eq x)) = _
  congr 1
  rw [Shape.reshapeEquiv_cons_one]
  funext a
  apply Fin.ext
  match a with
  | 0 => exact (Rect.emb_apply _ _ _).trans (show p + 1 * 0 = p by omega)
  | 1 => exact (Rect.emb_apply _ _ _).trans (show 0 + 1 * (x 0).val = (x 0).val by omega)
  | 2 => exact (Rect.emb_apply _ _ _).trans (show 0 + 1 * (x 1).val = (x 1).val by omega)

theorem emb_rowO {m : Memref sig .scVector .vmem S2x400 e} {off : Fin 2 → ℕ} {inb} (h : off = ![p, 0]) (hp : p < 2) (x : S400.Idx) :
    (rowO m off inb).view.emb x = m.view.emb (ix2 (⟨p, hp⟩ : Fin 2) (x 0)) := by
  subst h
  show m.view.emb ((Rect.unit (s := S2x400) ![p, 0] S1x400.size inb).emb (Shape.reshapeEquiv squeezes_S1x400_S400.numel_eq x)) = _
  congr 1
  rw [Shape.reshapeEquiv_cons_one]
  funext a
  apply Fin.ext
  match a with
  | 0 => exact (Rect.emb_apply _ _ _).trans (show p + 1 * 0 = p by omega)
  | 1 => exact (Rect.emb_apply _ _ _).trans (show 0 + 1 * (x 0).val = (x 0).val by omega)

theorem lt_of_inb3 {off : Fin 1 → ℕ} (inb : ∀ a, off a + S800.size a ≤ S3200000.size a) (h : off = ![n]) : n + 800 ≤ 3200000 := by
  subst h; exact inb 0

theorem lt_of_inb16 {off : Fin 1 → ℕ} (inb : ∀ a, off a + S400.size a ≤ S1600000.size a) (h : off = ![n]) : n + 400 ≤ 1600000 := by
  subst h; exact inb 0

/-- Element `x` of a stretch from `n` on is the array's element `n + x`. -/
theorem emb_st3 {m : Memref sig .scVector .hbm S3200000 e} {off : Fin 1 → ℕ} {inb} (h : off = ![n]) (x : S800.Idx) :
    (st3 m off inb).view.emb x = m.view.emb (at3 (n + (x 0).val)) := by
  have hn := lt_of_inb3 inb h
  have hx : (x 0).val < 800 := (x 0).isLt
  subst h
  show m.view.emb ((Rect.unit (s := S3200000) ![n] S800.size inb).emb x) = _
  congr 1
  funext a
  apply Fin.ext
  match a with
  | 0 => exact (Rect.emb_apply _ _ _).trans (show n + 1 * (x 0).val = (n + (x 0).val) % 3200000 by omega)

theorem emb_st16 {m : Memref sig .scVector .hbm S1600000 e} {off : Fin 1 → ℕ} {inb} (h : off = ![n]) (x : S400.Idx) :
    (st16 m off inb).view.emb x = m.view.emb (at16 (n + (x 0).val)) := by
  have hn := lt_of_inb16 inb h
  have hx : (x 0).val < 400 := (x 0).isLt
  subst h
  show m.view.emb ((Rect.unit (s := S1600000) ![n] S400.size inb).emb x) = _
  congr 1
  funext a
  apply Fin.ext
  match a with
  | 0 => exact (Rect.emb_apply _ _ _).trans (show n + 1 * (x 0).val = (n + (x 0).val) % 1600000 by omega)

theorem emb_elAll (x : S131072x16.Idx) : elAll.view.emb x = x := by
  show (Rect.unit (s := S131072x16) ![0, 0] S131072x16.size inb_S131072x16_S131072x16_0_0).emb x = x
  funext a
  apply Fin.ext
  match a with
  | 0 => exact (Rect.emb_apply _ _ _).trans (show 0 + 1 * (x 0).val = (x 0).val by omega)
  | 1 => exact (Rect.emb_apply _ _ _).trans (show 0 + 1 * (x 1).val = (x 1).val by omega)

end Slot

/-! ## The sets and what is read -/

section Sets

variable {p n : ℕ}

theorem set_ciB {off : Fin 2 → ℕ} {inb} (h : off = ![p, 0]) (hp : p < 2) : (row2 ciB off inb).view.set = slot2 p := by
  ext i
  rw [mem_slot2]
  constructor
  · intro hi
    obtain ⟨x, _, rfl⟩ := Finset.mem_map.mp hi
    rw [emb_row2 h hp]
    rfl
  · rintro rfl
    have : i = (row2 ciB off inb).view.emb (ix1 (i 1)) := by
      rw [emb_row2 h hp]; exact eq_ix2 i
    rw [this]; exact View.emb_mem_set _ _

theorem set_prB {off : Fin 2 → ℕ} {inb} (h : off = ![p, 0]) (hp : p < 2) : (row2 prB off inb).view.set = slot2 p := by
  ext i
  rw [mem_slot2]
  constructor
  · intro hi
    obtain ⟨x, _, rfl⟩ := Finset.mem_map.mp hi
    rw [emb_row2 h hp]
    rfl
  · rintro rfl
    have : i = (row2 prB off inb).view.emb (ix1 (i 1)) := by
      rw [emb_row2 h hp]; exact eq_ix2 i
    rw [this]; exact View.emb_mem_set _ _

theorem set_roB {off : Fin 3 → ℕ} {inb} (h : off = ![p, 0, 0]) (hp : p < 2) : (rowR roB off inb).view.set = slotR p := by
  ext i
  rw [mem_slotR]
  constructor
  · intro hi
    obtain ⟨x, _, rfl⟩ := Finset.mem_map.mp hi
    rw [emb_rowR h hp]
    rfl
  · rintro rfl
    have : i = (rowR roB off inb).view.emb (ix2 (i 1) (i 2)) := by
      rw [emb_rowR h hp]; exact eq_ix3 i
    rw [this]; exact View.emb_mem_set _ _

theorem set_ouB {off : Fin 2 → ℕ} {inb} (h : off = ![p, 0]) (hp : p < 2) : (rowO ouB off inb).view.set = slotO p := by
  ext i
  rw [mem_slotO]
  constructor
  · intro hi
    obtain ⟨x, _, rfl⟩ := Finset.mem_map.mp hi
    rw [emb_rowO h hp]
    rfl
  · rintro rfl
    have : i = (rowO ouB off inb).view.emb (ix1 (i 1)) := by
      rw [emb_rowO h hp]; exact eq_ix2 i
    rw [this]; exact View.emb_mem_set _ _

theorem set_ouH {off : Fin 1 → ℕ} {inb} (h : off = ![400 * n]) : (st16 ouH off inb).view.set = chunk n := by
  have hn := lt_of_inb16 inb h
  ext i
  rw [mem_chunk]
  constructor
  · intro hi
    obtain ⟨x, _, rfl⟩ := Finset.mem_map.mp hi
    have hx : (x 0).val < 400 := (x 0).isLt
    rw [emb_st16 h]
    show ((400 * n + (x 0).val) % 1600000) / 400 = n
    omega
  · intro hi
    have : i = (st16 ouH off inb).view.emb (ix1 (⟨(i 0).val % 400, Nat.mod_lt _ (by omega)⟩ : Fin 400)) := by
      rw [emb_st16 h, eq_ix1 i]
      congr 1
      apply Fin.ext
      show (i 0).val = (400 * n + (i 0).val % 400) % 1600000
      omega
    rw [this]; exact View.emb_mem_set _ _

variable {Val : EltTy → Type}

theorem read_ciB {off : Fin 2 → ℕ} {inb} (h : off = ![p, 0]) (hp : p < 2) (f : S2x800.Idx → Val .i32) (x : S800.Idx) :
    (row2 ciB off inb).view.read Val f x = f (ix2 (⟨p, hp⟩ : Fin 2) (x 0)) := congrArg f (emb_row2 h hp x)

theorem read_prB {off : Fin 2 → ℕ} {inb} (h : off = ![p, 0]) (hp : p < 2) (f : S2x800.Idx → Val .f32) (x : S800.Idx) :
    (row2 prB off inb).view.read Val f x = f (ix2 (⟨p, hp⟩ : Fin 2) (x 0)) := congrArg f (emb_row2 h hp x)

theorem read_roB {off : Fin 3 → ℕ} {inb} (h : off = ![p, 0, 0]) (hp : p < 2) (f : S2x800x16.Idx → Val .f32) (x : S800x16.Idx) :
    (rowR roB off inb).view.read Val f x = f (ix3 (⟨p, hp⟩ : Fin 2) (x 0) (x 1)) := congrArg f (emb_rowR h hp x)

theorem read_ouB {off : Fin 2 → ℕ} {inb} (h : off = ![p, 0]) (hp : p < 2) (f : S2x400.Idx → Val .f32) (x : S400.Idx) :
    (rowO ouB off inb).view.read Val f x = f (ix2 (⟨p, hp⟩ : Fin 2) (x 0)) := congrArg f (emb_rowO h hp x)

theorem read_ciH {off : Fin 1 → ℕ} {inb} (h : off = ![n]) (f : S3200000.Idx → Val .i32) (x : S800.Idx) :
    (st3 ciH off inb).view.read Val f x = f (at3 (n + (x 0).val)) := congrArg f (emb_st3 h x)

theorem read_prH {off : Fin 1 → ℕ} {inb} (h : off = ![n]) (f : S3200000.Idx → Val .f32) (x : S800.Idx) :
    (st3 prH off inb).view.read Val f x = f (at3 (n + (x 0).val)) := congrArg f (emb_st3 h x)

theorem read_ouH {off : Fin 1 → ℕ} {inb} (h : off = ![n]) (f : S1600000.Idx → Val .f32) (x : S400.Idx) :
    (st16 ouH off inb).view.read Val f x = f (at16 (n + (x 0).val)) := congrArg f (emb_st16 h x)

theorem read_elAll (f : S131072x16.Idx → Val .f32) : elAll.view.read Val f = f := funext fun x => congrArg f (emb_elAll x)

end Sets

end Cert.Proof.Tile

end
-- ==== Proof.Ops.lean ====
/-
  One lemma for each kind of transfer a tile makes, at any contents: a copy between two pieces of memory, which lands
  the contents named, the indexed copy of 800 rows of the table, and the wait that hands back what a transfer carries.
-/
module

public import proofs.«01_k».proof.Proof.Views

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The index a tile's own waits are made at. -/
abbrev ι₀ : HIx 1 := default

section Flights

variable {thr : Thread nD τ} {sm : SemLoc sig} {N : ℕ} {X Y : sProp (MT nD τ sig (HIx 1) (Elt F) ℕ UU ℕ)}

/-- What a transfer in flight is to deliver, and what one holds beside it, are delivered together. -/
theorem flight_frame : iprop(Transfers.Flight countersEmb thr sm ι₀ N X ∗ Y) ⊢ Transfers.Flight countersEmb thr sm ι₀ N iprop(X ∗ Y) := by
  unfold Transfers.Flight
  iintro ⟨⟨⟨%R, HR, %h1, %h2⟩, Hc⟩, HY⟩
  isplitr [Hc]
  · iexists iprop(R ∗ Y)
    isplitl [HR HY]
    · isplitl [HR] <;> iassumption
    isplitl
    · ipureintro
      intro K
      refine BI.Entails.trans (show iprop((R ∗ Y) ∗ ((semVal (thr, sm) 0 ∗ X ∗ Y) -∗ K PUnit.unit)) ⊢ iprop(R ∗ ((semVal (thr, sm) 0 ∗ X) -∗ K PUnit.unit)) from ?_) (h1 K)
      iintro ⟨⟨HR, HY⟩, Hk⟩
      isplitl [HR]; · iexact HR
      iintro ⟨Hv, HX⟩
      iapply Hk
      isplitl [Hv]; · iexact Hv
      isplitl [HX] <;> iassumption
    · ipureintro
      intro K
      refine BI.Entails.trans (show iprop((R ∗ Y) ∗ (R ∗ Y -∗ K PUnit.unit)) ⊢ iprop(R ∗ (R -∗ K PUnit.unit)) from ?_) (h2 K)
      iintro ⟨⟨HR, HY⟩, Hk⟩
      isplitl [HR]; · iexact HR
      iintro HR
      iapply Hk
      isplitl [HR] <;> iassumption
  · iexact Hc

end Flights

/-- A buffer written through a view with the contents the view reads off `g` is `g` there. -/
theorem write_eq_of_read {κ : Kind} {sp : Space} {s : Shape} {e : EltTy} {Val : EltTy → Type} (m : Memref sig κ sp s e)
    (f g : m.view.ref.ty.shape.Idx → Val m.view.ref.ty.elt) (w : s.Idx → Val e) (h : m.view.read Val g = w) :
    ∀ i ∈ m.view.set, m.view.write Val f w Finset.univ i = g i := by
  intro i hi
  obtain ⟨x, _, rfl⟩ := Finset.mem_map.mp hi
  apply View.eq_of_read_eq
  rw [View.read_write_univ, h]

/-! ## A tile's run: what it is made of -/

/-- One tile's run: the device and the tile, the three arrays it reads (the table, the weights, the child numbers), the
    shares of them each slot's transfers read through, and what the tile owes and has waited on at its start. -/
structure Run (F : FTy → Type) where
  d : Dev nD
  L : grid0.Coords
  el : S131072x16.Idx → F .f32
  pr : S3200000.Idx → F .f32
  ci : S3200000.Idx → BitVec 32
  qe : ℕ → PosShare TreeShare
  qp : ℕ → PosShare TreeShare
  qc : ℕ → PosShare TreeShare
  O : CellTallies nD τ sig (HIx 1)
  W : Waits sig (HIx 1)

abbrev cV (L : grid0.Coords) : Fin τ.nSC := (L 0).castLE hcore0
abbrev jV (L : grid0.Coords) : Fin τ.nSub := (L 1).castLE hsub0

namespace Run

variable (t : Run F)

/-- The tile. -/
abbrev thr : Thread nD τ := V t.d (cV t.L) (jV t.L)
/-- The first place of chunk `g`'s child numbers and weights. -/
def n3 (g : ℕ) : ℕ := 200000 * (t.L 1).val + 100000 * (t.L 0).val + 800 * g
/-- The first place of chunk `g`'s results. -/
def n16 (g : ℕ) : ℕ := 100000 * (t.L 1).val + 50000 * (t.L 0).val + 400 * g
/-- Chunk `g`'s number among all the tiles' chunks. -/
def chNo (g : ℕ) : ℕ := 250 * (t.L 1).val + 125 * (t.L 0).val + g

theorem n16_eq (g : ℕ) : t.n16 g = 400 * t.chNo g := by unfold n16 chNo; omega

/-- The shares a slot's transfers read through. -/
abbrev elSh (p : ℕ) : sProp 𝕄 := elH.view.loc t.thr ↦{t.qe p} t.el
abbrev prSh (p : ℕ) : sProp 𝕄 := prH.view.loc t.thr ↦{t.qp p} t.pr
abbrev ciSh (p : ℕ) : sProp 𝕄 := ciH.view.loc t.thr ↦{t.qc p} t.ci
/-- A slot at any contents. -/
abbrev ciAny (p : ℕ) : sProp 𝕄 := iprop(∃ f, ciB.view.loc t.thr ↦[slot2 p]{fullShare} f)
abbrev prAny (p : ℕ) : sProp 𝕄 := iprop(∃ f, prB.view.loc t.thr ↦[slot2 p]{fullShare} f)
abbrev roAny (p : ℕ) : sProp 𝕄 := iprop(∃ f, roB.view.loc t.thr ↦[slotR p]{fullShare} f)
abbrev ouAny (p : ℕ) : sProp 𝕄 := iprop(∃ f, ouB.view.loc t.thr ↦[slotO p]{fullShare} f)
/-- A slot at chunk `g`'s contents. -/
abbrev ciIs (p g : ℕ) : sProp 𝕄 := ciB.view.loc t.thr ↦[slot2 p]{fullShare} ciC t.ci (t.n3 g)
abbrev prIs (p g : ℕ) : sProp 𝕄 := prB.view.loc t.thr ↦[slot2 p]{fullShare} prC t.pr (t.n3 g)
abbrev roIs (p g : ℕ) : sProp 𝕄 := roB.view.loc t.thr ↦[slotR p]{fullShare} rowsC t.el t.ci (t.n3 g)
/-- Chunk `g` of the results at any contents, and at the results. -/
abbrev chAny (g : ℕ) : sProp 𝕄 := iprop(∃ f, ouH.view.loc t.thr ↦[chunk (t.chNo g)]{fullShare} f)

abbrev sem0 (A : DmaSems sig S2) (p : ℕ) : sProp 𝕄 := semVal (t.thr, .dma (semP A p)) 0
abbrev fl (A : DmaSems sig S2) (p N : ℕ) (X : sProp 𝕄) : sProp 𝕄 := Transfers.Flight countersEmb t.thr (.dma (semP A p)) ι₀ N X
/-- What the tile owes, with waits of its own beyond those at its start. -/
abbrev owe : sProp 𝕄 := iprop(∃ W', ⌜∀ p ∈ W', p ∈ t.W ∨ p.2 = none⌝ ∗ owes t.thr t.O W')
abbrev may : sProp 𝕄 := Transfers.MayWaits t.thr ι₀ t.O

variable [FloatOps F]

abbrev ouIs (p g : ℕ) : sProp 𝕄 := ouB.view.loc t.thr ↦[slotO p]{fullShare} ouC t.el t.pr t.ci (t.n16 g)
abbrev chIs (g : ℕ) : sProp 𝕄 := ouH.view.loc t.thr ↦[chunk (t.chNo g)]{fullShare} outV t.el t.pr t.ci

/-- A step of the tile's program. -/
abbrev wpT {α : Type} (e : Prog (TpuEff nD τ sig (Elt F) Λ₀ (.scVector (cV t.L) (jV t.L))) α) (Q : α → sProp 𝕄) : sProp 𝕄 :=
  wp frame (wpE (defs₀ (F := F)) 𝒱₀ t.thr none) Set.univ e Q

/-- One step after another. -/
theorem wpT_bind {α β : Type} (e : Prog (TpuEff nD τ sig (Elt F) Λ₀ (.scVector (cV t.L) (jV t.L))) α)
    (k : α → Prog (TpuEff nD τ sig (Elt F) Λ₀ (.scVector (cV t.L) (jV t.L))) β) (Q : β → sProp 𝕄) :
    t.wpT (e >>= k) Q = t.wpT e fun a => t.wpT (k a) Q := wp_bind frame _ _ _ _ _
/-- The end of a program. -/
theorem wpT_pure {α : Type} (a : α) (Q : α → sProp 𝕄) : t.wpT (pure a) Q = iprop(|={Set.univ}=> Q a) := rfl

end Run

/-- The number of elements' bits each transfer credits its semaphore by. -/
abbrev NI : ℕ := (row2 ciB ![0, 0] inb_S2x800_S1x800_0_0).view.dmaCredit
abbrev NP : ℕ := (row2 prB ![0, 0] inb_S2x800_S1x800_0_0).view.dmaCredit
abbrev NG : ℕ := (rowR roB ![0, 0, 0] inb_S2x800x16_S1x800x16_0_0_0).view.dmaCredit
abbrev NO : ℕ := sig.dmaCredit .scVector .hbm ouH.view.buf S400 .f32

/-- The `n`-th element of a row of 800 in row-major order is its element `n`. -/
theorem symm_S800 (n : Fin S800.numel) : S800.rowMajor.symm n = ix1 (n.cast (Nat.mul_one 800)) := by
  rw [Equiv.symm_apply_eq]
  apply Fin.ext
  rw [Shape.rowMajor_val_one]
  rfl

section Copy

variable [FloatOps F] (t : Run F)

/-- A copy: from a share `q` of the source's buffer at `fs` on `Ss`, and the destination's elements at any contents, the
    transfer is under way, to deliver the destination at `g` (whose elements are the source's) and the share. -/
theorem wp_copy {sp sp' : Space} {s : Shape} {e : EltTy} (src : Memref sig .scVector sp s e) (dst : Memref sig .scVector sp' s e) {sm : DmaSem sig}
    {hsrc : src.view.WordExact} {hdst : dst.view.WordExact}
    {hsem : DmaTarget.Typed (nD := nD) (p := .scVector (cV t.L) (jV t.L)) sp (.dma sm) (.here dst)}
    {Q : PUnit → sProp 𝕄} {q : PosShare TreeShare}
    {fs : Buf (Elt F) (src.view.loc t.thr)} {Ss : Finset (Idx (src.view.loc t.thr))} {Sd : Finset (Idx (dst.view.loc t.thr))}
    (g : Buf (Elt F) (dst.view.loc t.thr)) (N : ℕ) (hN : dst.view.dmaCredit = N) (hN0 : 0 < N)
    (hSd : dst.view.set = Sd) (hSs : src.view.set ⊆ Ss)
    (hg : dst.view.read (Elt F) g = src.view.read (Elt F) fs) :
    iprop((∃ f, dst.view.loc t.thr ↦[Sd]{fullShare} f) ∗ (src.view.loc t.thr ↦[Ss]{q} fs) ∗ semVal (t.thr, .dma sm) 0)
      ⊢ iprop((Transfers.Flight countersEmb t.thr (.dma sm) ι₀ N
              iprop((dst.view.loc t.thr ↦[Sd]{fullShare} g) ∗ (src.view.loc t.thr ↦[Ss]{q} fs)) -∗ Q ⟨⟩)
          -∗ t.wpT (Prog.lift (.enqueueDma src (.here dst) (.dma sm) hsrc hdst hsem)) Q) := by
  subst hSd
  iintro ⟨⟨%f, Hd⟩, Hs, Hv⟩ Hk
  ihave Hss := (pointsTo_split_subset (q := q) (f := fs) (S := Ss) hSs).1 $$ Hs
  icases Hss with ⟨Hs, Hr⟩
  iapply (Transfers.wp_dmaLocal countersEmb 𝒱₀ t.thr none (src := src) (dst := dst) (sm := .dma sm) (via := .same) (fs := fs) (fd := f)
    (Sd := dst.view.set) (k := .ret) (Q := Q) ι₀ N hN hN0 (Finset.Subset.refl _)) $$ [Hd Hs Hv]
  · isplitl [Hs]; · iexact Hs
    isplitl [Hd] <;> iassumption
  iintro Hfl
  rw [wp_ret]; imodintro
  iapply Hk
  ihave Hfl := flight_frame $$ [Hfl Hr]
  · isplitl [Hfl]; · iexact Hfl
    iexact Hr
  iapply (Transfers.Flight_mono (EC := countersEmb) ?_) $$ Hfl
  iintro ⟨⟨Hd, Hs⟩, Hr⟩
  isplitl [Hd]
  · rw [show (dst.view.loc t.thr ↦[dst.view.set]{fullShare} g : sProp 𝕄) = _ from
      (pointsTo_congr (write_eq_of_read dst f g _ hg)).symm]
    iexact Hd
  · iapply (pointsTo_split_subset (q := q) (f := fs) (S := Ss) hSs).2
    isplitl [Hs] <;> iassumption

variable {p g : ℕ}

/-- The copy of chunk `g`'s child numbers into slot `p`. -/
theorem start_ci {off1 : Fin 1 → ℕ} {inb1} (h1 : off1 = ![t.n3 g]) {off2 : Fin 2 → ℕ} {inb2} (h2 : off2 = ![p, 0]) {A : DmaSems sig S2}
    {off3 : Fin 1 → ℕ} {inb3} (h3 : off3 = ![p]) (hp : p < 2) {hsrc hdst hsem} {Q : PUnit → sProp 𝕄} :
    iprop(t.ciAny p ∗ t.ciSh p ∗ t.sem0 A p)
      ⊢ iprop((t.fl A p NI iprop(t.ciIs p g ∗ t.ciSh p) -∗ Q ⟨⟩)
          -∗ t.wpT (Prog.lift (.enqueueDma (st3 ciH off1 inb1) (.here (row2 ciB off2 inb2)) (.dma (semAt A off3 inb3)) hsrc hdst hsem)) Q) := by
  dsimp only [Run.sem0, Run.fl]; rw [← semAt_eq A inb3 h3 hp]
  exact wp_copy t (st3 ciH off1 inb1) (row2 ciB off2 inb2) (fs := t.ci) (ciC t.ci (t.n3 g)) NI rfl (by decide) (set_ciB h2 hp) (Finset.subset_univ _)
    (funext fun x => by rw [read_ciB h2 hp, read_ciH h1]; rfl)

/-- The copy of chunk `g`'s weights into slot `p`. -/
theorem start_pr {off1 : Fin 1 → ℕ} {inb1} (h1 : off1 = ![t.n3 g]) {off2 : Fin 2 → ℕ} {inb2} (h2 : off2 = ![p, 0]) {A : DmaSems sig S2}
    {off3 : Fin 1 → ℕ} {inb3} (h3 : off3 = ![p]) (hp : p < 2) {hsrc hdst hsem} {Q : PUnit → sProp 𝕄} :
    iprop(t.prAny p ∗ t.prSh p ∗ t.sem0 A p)
      ⊢ iprop((t.fl A p NP iprop(t.prIs p g ∗ t.prSh p) -∗ Q ⟨⟩)
          -∗ t.wpT (Prog.lift (.enqueueDma (st3 prH off1 inb1) (.here (row2 prB off2 inb2)) (.dma (semAt A off3 inb3)) hsrc hdst hsem)) Q) := by
  dsimp only [Run.sem0, Run.fl]; rw [← semAt_eq A inb3 h3 hp]
  exact wp_copy t (st3 prH off1 inb1) (row2 prB off2 inb2) (fs := t.pr) (prC t.pr (t.n3 g)) NP rfl (by decide) (set_prB h2 hp) (Finset.subset_univ _)
    (funext fun x => by rw [read_prB h2 hp, read_prH h1]; rfl)

/-- The copy of slot `p`'s results, chunk `g`'s, out to their place. -/
theorem start_ou {off1 : Fin 1 → ℕ} {inb1} (h1 : off1 = ![t.n16 g]) {off2 : Fin 2 → ℕ} {inb2} (h2 : off2 = ![p, 0]) {A : DmaSems sig S2}
    {off3 : Fin 1 → ℕ} {inb3} (h3 : off3 = ![p]) (hp : p < 2) {hsrc hdst hsem} {Q : PUnit → sProp 𝕄} :
    iprop(t.chAny g ∗ t.ouIs p g ∗ t.sem0 A p)
      ⊢ iprop((t.fl A p NO iprop(t.chIs g ∗ t.ouIs p g) -∗ Q ⟨⟩)
          -∗ t.wpT (Prog.lift (.enqueueDma (rowO ouB off2 inb2) (.here (st16 ouH off1 inb1)) (.dma (semAt A off3 inb3)) hsrc hdst hsem)) Q) := by
  dsimp only [Run.sem0, Run.fl]; rw [← semAt_eq A inb3 h3 hp]
  exact wp_copy t (rowO ouB off2 inb2) (st16 ouH off1 inb1) (fs := ouC t.el t.pr t.ci (t.n16 g)) (outV t.el t.pr t.ci) NO rfl (by decide)
    (set_ouH (h1.trans (by rw [t.n16_eq]))) (by rw [set_ouB h2 hp])
    (funext fun x => by rw [read_ouB h2 hp, read_ouH h1]; rfl)

/-- A wait for a transfer under way on semaphore `p` of a pair: what it delivers, and the semaphore at zero again. -/
theorem wait_fl {sp sp' : Space} {s s' : Shape} {e e' : EltTy} {κ' : Kind} {A : DmaSems sig S2} {off : Fin 1 → ℕ} {inb} (h : off = ![p]) (hp : p < 2)
    {srcw : Memref sig .scVector sp' s' e'} {dstw : Memref sig κ' sp s e} {hsrc : srcw.view.WordExact} {hdst : dstw.view.WordExact}
    {N : ℕ} (hN : dstw.view.dmaCredit = N) {X : sProp 𝕄} {Q : PUnit → sProp 𝕄} :
    iprop(t.fl A p N X ∗ t.owe ∗ t.may)
      ⊢ iprop((iprop(X ∗ t.sem0 A p ∗ t.owe) -∗ Q ⟨⟩)
          -∗ t.wpT (Prog.lift (.waitDma2 (semAt A off inb) srcw dstw hsrc hdst)) Q) := by
  dsimp only [Run.sem0, Run.fl]; rw [← semAt_eq A inb h hp]
  iintro ⟨Hfl, ⟨%W', %hW', HO⟩, Hmw⟩ Hk
  iapply (Transfers.wp_waitLocalO countersEmb 𝒱₀ t.thr none (sem := semAt A off inb) (srcw := srcw) (dstw := dstw) (k := .ret) (Q := Q) ι₀ hN) $$ [Hfl HO Hmw]
  · isplitl [Hfl]; · iexact Hfl
    isplitl [HO]; · iexact HO
    iapply (Transfers.MayWaits.elim (SemLoc.dma (semAt A off inb))) $$ Hmw
  iintro ⟨HX, Hv, HO⟩
  rw [wp_ret]; imodintro
  iapply Hk
  isplitl [HX]; · iexact HX
  isplitl [Hv]; · iexact Hv
  iexists _; isplitr
  swap; · iexact HO
  ipureintro; intro x hx
  rcases Finset.mem_insert.mp hx with hx | hx
  · exact .inr (hx ▸ rfl)
  · exact hW' x hx

/-- The indexed copy of the rows of chunk `g`'s child numbers, those in slot `p`, into slot `p`. -/
theorem start_ro (hin : ∀ y, (t.ci y).toNat < 131072) {off1 : Fin 3 → ℕ} {inb1} (h1 : off1 = ![p, 0, 0]) {off2 : Fin 2 → ℕ} {inb2} (h2 : off2 = ![p, 0])
    {A : DmaSems sig S2} {off3 : Fin 1 → ℕ} {inb3} (h3 : off3 = ![p]) (hp : p < 2)
    {hn hp' hsrc he hsp hr} {Q : PUnit → sProp 𝕄} :
    iprop(t.roAny p ∗ t.elSh p ∗ t.ciIs p g ∗ t.sem0 A p)
      ⊢ iprop((t.fl A p NG iprop(t.roIs p g ∗ t.elSh p ∗ t.ciIs p g) -∗ Q ⟨⟩)
          -∗ t.wpT (SparseCore.enqueueIndirectGather hp' elAll (rowR roB off1 inb1) gathers_S131072x16_S800x16 (row2 ciB off2 inb2) hn
              (semAt A off3 inb3) hsrc he hsp hr) Q) := by
  dsimp only [Run.sem0, Run.fl]; rw [← semAt_eq A inb3 h3 hp]
  iintro ⟨⟨%f, Hd⟩, Hs, Hi, Hv⟩ Hk
  ihave Hss := (pointsTo_split_subset (q := t.qe p) (f := t.el) (S := Finset.univ) (Finset.subset_univ elAll.view.set)).1 $$ Hs
  icases Hss with ⟨Hs, Hr⟩
  have hl : ∀ x, ((row2 ciB off2 inb2).view.read (Elt F) (ciC t.ci (t.n3 g)) x).toNat < 131072 := fun x => by
    rw [read_ciB h2 hp]; exact hin _
  rw [← bind_pure (SparseCore.enqueueIndirectGather hp' elAll (rowR roB off1 inb1) gathers_S131072x16_S800x16 (row2 ciB off2 inb2) hn
              (semAt A off3 inb3) hsrc he hsp hr)]
  iapply (SparseCore.wp_indirectGatherLocal countersEmb 𝒱₀ t.thr none (src := elAll) (dst := rowR roB off1 inb1) (hg := gathers_S131072x16_S800x16)
    (offs := row2 ciB off2 inb2) (q := t.qe p) (qo := fullShare) (fs := t.el) (fd := f) (fo := ciC t.ci (t.n3 g)) (k := pure) (Q := Q) ι₀
    NG (SparseCore.sum_rowCredit_eq_dmaCredit (rowR roB off1 inb1) _ fun _ => rfl) (by decide) hl) $$ [Hd Hs Hi Hv]
  · isplitl [Hs]; · iexact Hs
    isplitl [Hd]; · rw [set_roB h1 hp]; iexact Hd
    isplitl [Hi]; · rw [set_ciB h2 hp]; iexact Hi
    iexact Hv
  iintro Hfl
  rw [wp_pure]; imodintro
  iapply Hk
  ihave Hfl := flight_frame $$ [Hfl Hr]
  · isplitl [Hfl]; · iexact Hfl
    iexact Hr
  iapply (Transfers.Flight_mono (EC := countersEmb) ?_) $$ Hfl
  iintro ⟨⟨Hd, Hs, Hi⟩, Hr⟩
  isplitl [Hd]
  · iapply (Entails.of_eq (show ((rowR roB off1 inb1).view.loc t.thr ↦[(rowR roB off1 inb1).view.set]{fullShare} _ : sProp 𝕄) = t.roIs p g from
      (pointsTo_congr (write_eq_of_read (rowR roB off1 inb1) f (rowsC t.el t.ci (t.n3 g)) _ (by
        funext x
        rw [read_roB h1 hp, read_elAll]
        show t.el (at2 (t.ci (at3 (t.n3 g + (x 0).val))).toNat (x 1)) = t.el (gathers_S131072x16_S800x16.idx _ x)
        congr 1
        funext a
        apply Fin.ext
        match a with
        | 0 =>
          refine Eq.trans ?_ (congrArg Fin.val (Shape.Gathers.idx_axis gathers_S131072x16_S800x16 _ x)).symm
          show _ = ((row2 ciB off2 inb2).view.read (Elt F) (ciC t.ci (t.n3 g)) (S800.rowMajor.symm ((x 0).cast _))).toNat
          rw [read_ciB h2 hp, symm_S800]
          exact Nat.mod_eq_of_lt (hin _)
        | 1 => exact (Shape.Gathers.idx_of_ne gathers_S131072x16_S800x16 _ x 1 (by decide)).symm))).trans (by rw [set_roB h1 hp]))) $$ Hd
  isplitl [Hs Hr]
  · iapply (pointsTo_split_subset (q := t.qe p) (f := t.el) (S := Finset.univ) (Finset.subset_univ elAll.view.set)).2
    isplitl [Hs] <;> iassumption
  · rw [set_ciB h2 hp]; iexact Hi

end Copy

end Cert.Proof.Tile

end
-- ==== Proof.Node.lean ====
/-
  The loop over the 25 nodes of a chunk. Each trip loads the node's 32 rows and 32 weights from the slot its chunk
  landed in, computes, and stores the node's 16 results in their place in the slot of results: after `n` trips the first
  `16 n` places of the slot hold the results.
-/
module

public import proofs.«01_k».proof.Proof.Ops

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace Run

variable (t : Run F)

/-- The number of node `n` of chunk `g` among all nodes. -/
def node (g n : ℕ) : ℕ := 6250 * (t.L 1).val + 3125 * (t.L 0).val + 25 * g + n

end Run

section Node

variable [FloatOps F] (t : Run F) {p g n : ℕ}

/-- A load of row `32 n + c` of a slot holding chunk `g`'s rows is child `c`'s row of the chunk's node `n`. -/
theorem load_ro {off : Fin 3 → ℕ} {inb : ∀ a, off a + S1x1x16.size a ≤ S2x800x16.size a} (c : Fin 32) (h : off = ![p, 32 * n + c.val, 0]) (hp : p < 2)
    {hl : roB.view.LoadsAt (Rect.unit (s := S2x800x16) off S1x1x16.size inb).toLoadRect} {Q : Vec F S1x1x16 .f32 → sProp 𝕄} :
    (t.roIs p g) ⊢ iprop((t.roIs p g -∗ Q (rowV t.el t.ci (t.node g n) c))
      -∗ t.wpT (Prog.lift (.load roB (Rect.unit (s := S2x800x16) off S1x1x16.size inb).toLoadRect hl)) Q) := by
  have he : ∀ x : S1x1x16.Idx, ((roB.access (Rect.unit (s := S2x800x16) off S1x1x16.size inb)).emb x 0).val = p
      ∧ ((roB.access (Rect.unit (s := S2x800x16) off S1x1x16.size inb)).emb x 1).val = 32 * n + c.val
      ∧ ((roB.access (Rect.unit (s := S2x800x16) off S1x1x16.size inb)).emb x 2) = x 2 := fun x => by
    subst h
    have h0 : (x 0).val = 0 := Nat.lt_one_iff.mp (x 0).isLt
    have h1 : (x 1).val = 0 := Nat.lt_one_iff.mp (x 1).isLt
    refine ⟨(Rect.emb_apply _ _ _).trans ?_, (Rect.emb_apply _ _ _).trans ?_, Fin.ext ((Rect.emb_apply _ _ _).trans ?_)⟩
    · show p + 1 * (x 0).val = p; omega
    · show 32 * n + c.val + 1 * (x 1).val = _; omega
    · show 0 + 1 * (x 2).val = _; omega
  iintro H Hk
  iapply (wp_load_rect (defs := defs₀ (F := F)) 𝒱₀ t.thr none Set.univ (m := roB) (r := Rect.unit (s := S2x800x16) off S1x1x16.size inb) (hl := hl)
    (k := .ret) (S := slotR p) (q := fullShare) (f := rowsC t.el t.ci (t.n3 g)) (Q := Q) (by
      intro i hi
      obtain ⟨x, _, rfl⟩ := Finset.mem_map.mp hi
      exact mem_slotR.mpr (he x).1)) $$ [H]
  · iexact H
  iintro H
  rw [wp_ret]; imodintro
  have hv : (roB.access (Rect.unit (s := S2x800x16) off S1x1x16.size inb)).read (Elt F) (rowsC t.el t.ci (t.n3 g)) = rowV t.el t.ci (t.node g n) c := by
    funext x
    obtain ⟨-, h1, h2⟩ := he x
    show t.el (at2 (t.ci (at3 (t.n3 g + ((roB.access (Rect.unit (s := S2x800x16) off S1x1x16.size inb)).emb x 1).val))).toNat
      ((roB.access (Rect.unit (s := S2x800x16) off S1x1x16.size inb)).emb x 2)) = t.el (at2 (t.ci (at3 (t.node g n * 32 + c.val))).toNat (x 2))
    rw [h1, h2, show t.n3 g + (32 * n + c.val) = t.node g n * 32 + c.val by unfold Run.n3 Run.node; omega]
  rw [hv]
  iapply Hk; iexact H

/-- A load of 16 weights from place `32 n + b` of a slot holding chunk `g`'s weights on is the chunk's node `n`'s
    weights from weight `b` on. -/
theorem load_pr {off : Fin 2 → ℕ} {inb : ∀ a, off a + S1x16.size a ≤ S2x800.size a} (b : ℕ) (h : off = ![p, 32 * n + b]) (hp : p < 2)
    {hl : prB.view.LoadsAt (Rect.unit (s := S2x800) off S1x16.size inb).toLoadRect} {Q : Vec F S1x16 .f32 → sProp 𝕄} :
    (t.prIs p g) ⊢ iprop((t.prIs p g -∗ Q (wV t.pr (t.node g n) b))
      -∗ t.wpT (Prog.lift (.load prB (Rect.unit (s := S2x800) off S1x16.size inb).toLoadRect hl)) Q) := by
  have he : ∀ x : S1x16.Idx, ((prB.access (Rect.unit (s := S2x800) off S1x16.size inb)).emb x 0).val = p
      ∧ ((prB.access (Rect.unit (s := S2x800) off S1x16.size inb)).emb x 1).val = 32 * n + b + (x 1).val := fun x => by
    subst h
    have h0 : (x 0).val = 0 := Nat.lt_one_iff.mp (x 0).isLt
    refine ⟨(Rect.emb_apply _ _ _).trans ?_, (Rect.emb_apply _ _ _).trans ?_⟩
    · show p + 1 * (x 0).val = p; omega
    · show 32 * n + b + 1 * (x 1).val = _; omega
  iintro H Hk
  iapply (wp_load_rect (defs := defs₀ (F := F)) 𝒱₀ t.thr none Set.univ (m := prB) (r := Rect.unit (s := S2x800) off S1x16.size inb) (hl := hl)
    (k := .ret) (S := slot2 p) (q := fullShare) (f := prC t.pr (t.n3 g)) (Q := Q) (by
      intro i hi
      obtain ⟨x, _, rfl⟩ := Finset.mem_map.mp hi
      exact mem_slot2.mpr (he x).1)) $$ [H]
  · iexact H
  iintro H
  rw [wp_ret]; imodintro
  have hv : (prB.access (Rect.unit (s := S2x800) off S1x16.size inb)).read (Elt F) (prC t.pr (t.n3 g)) = wV t.pr (t.node g n) b := by
    funext x
    show t.pr (at3 (t.n3 g + ((prB.access (Rect.unit (s := S2x800) off S1x16.size inb)).emb x 1).val)) = t.pr (at3 (t.node g n * 32 + b + (x 1).val))
    rw [(he x).2, show t.n3 g + (32 * n + b + (x 1).val) = t.node g n * 32 + b + (x 1).val by unfold Run.n3 Run.node; omega]
  rw [hv]
  iapply Hk; iexact H

/-- A slot of results of which the first `16 n` places hold chunk `g`'s. -/
abbrev ouUpTo (p g n : ℕ) : sProp 𝕄 :=
  iprop(∃ f : S2x400.Idx → F .f32, ⌜∀ x ∈ slotO p, (x 1).val < 16 * n → f x = ouC t.el t.pr t.ci (t.n16 g) x⌝ ∗ ouB.view.loc t.thr ↦[slotO p]{fullShare} f)

theorem emb_ou {off : Fin 2 → ℕ} {inb : ∀ a, off a + S1x16.size a ≤ S2x400.size a} (h : off = ![p, 16 * n]) (x : S1x16.Idx) :
    ((ouB.access (Rect.unit (s := S2x400) off S1x16.size inb)).emb x 0).val = p
      ∧ ((ouB.access (Rect.unit (s := S2x400) off S1x16.size inb)).emb x 1).val = 16 * n + (x 1).val := by
  subst h
  have h0 : (x 0).val = 0 := Nat.lt_one_iff.mp (x 0).isLt
  refine ⟨(Rect.emb_apply _ _ _).trans ?_, (Rect.emb_apply _ _ _).trans ?_⟩
  · show p + 1 * (x 0).val = p; omega
  · show 16 * n + 1 * (x 1).val = _; omega

/-- A load of a place the program does not use the value of. -/
theorem load_ou {off : Fin 2 → ℕ} {inb : ∀ a, off a + S1x16.size a ≤ S2x400.size a} (h : off = ![p, 16 * n])
    {hl : ouB.view.LoadsAt (Rect.unit (s := S2x400) off S1x16.size inb).toLoadRect} {Q : Vec F S1x16 .f32 → sProp 𝕄} :
    (ouUpTo t p g n) ⊢ iprop((∀ w, ouUpTo t p g n -∗ Q w)
      -∗ t.wpT (Prog.lift (.load ouB (Rect.unit (s := S2x400) off S1x16.size inb).toLoadRect hl)) Q) := by
  iintro ⟨%f, %hf, H⟩ Hk
  iapply (wp_load_rect (defs := defs₀ (F := F)) 𝒱₀ t.thr none Set.univ (m := ouB) (r := Rect.unit (s := S2x400) off S1x16.size inb) (hl := hl)
    (k := .ret) (S := slotO p) (q := fullShare) (f := f) (Q := Q) (by
      intro i hi
      obtain ⟨x, _, rfl⟩ := Finset.mem_map.mp hi
      exact mem_slotO.mpr (emb_ou h x).1)) $$ [H]
  · iexact H
  iintro H
  rw [wp_ret]; imodintro
  iapply Hk
  iexists f; isplitr
  · ipureintro; exact hf
  · iexact H

/-- The store of node `n`'s results. -/
theorem store_ou {off : Fin 2 → ℕ} {inb : ∀ a, off a + S1x16.size a ≤ S2x400.size a} (h : off = ![p, 16 * n]) (hg : g < 125) (hn : n < 25)
    {hx hm} {w : FVec F S1x16 .f32} (hw : w = nodeV t.el t.pr t.ci (t.node g n)) {Q : PUnit → sProp 𝕄} :
    (ouUpTo t p g n) ⊢ iprop((ouUpTo t p g (n + 1) -∗ Q ⟨⟩)
      -∗ t.wpT (Prog.lift (.store ouB (Rect.unit (s := S2x400) off S1x16.size inb) w Finset.univ hx hm)) Q) := by
  iintro ⟨%f, %hf, H⟩ Hk
  iapply (wp_store (defs := defs₀ (F := F)) 𝒱₀ t.thr none Set.univ (m := ouB) (r := Rect.unit (s := S2x400) off S1x16.size inb) (w := w) (Mk := Finset.univ)
    (k := .ret) (S := slotO p) (f := f) (Q := Q) (by
      intro i hi
      obtain ⟨x, _, rfl⟩ := Finset.mem_map.mp hi
      exact mem_slotO.mpr (emb_ou h x).1)) $$ [H]
  · iexact H
  iintro H
  rw [wp_ret]; imodintro
  iapply Hk
  iexists _; isplitr
  swap; · iexact H
  ipureintro
  intro x hx hlt
  have hx0 := mem_slotO.mp hx
  by_cases hc : (x 1).val < 16 * n
  · refine Eq.trans (View.write_of_not_mem (Val := Elt F) (v := ouB.access (Rect.unit (s := S2x400) off S1x16.size inb)) f w Finset.univ
      (i := x) fun hi => ?_) (hf x hx hc)
    obtain ⟨y, _, rfl⟩ := Finset.mem_map.mp hi
    rw [(emb_ou h y).2] at hc; omega
  · have hlt16 : (x 1).val - 16 * n < 16 := by omega
    have hxe : x = (ouB.access (Rect.unit (s := S2x400) off S1x16.size inb)).emb (ix2 (0 : Fin 1) (⟨(x 1).val - 16 * n, hlt16⟩ : Fin 16)) := by
      have he := emb_ou (inb := inb) h (ix2 (0 : Fin 1) (⟨(x 1).val - 16 * n, hlt16⟩ : Fin 16))
      funext a
      apply Fin.ext
      match a with
      | 0 => exact hx0.trans he.1.symm
      | 1 => exact (show (x 1).val = 16 * n + ((x 1).val - 16 * n) by omega).trans he.2.symm
    have hL1 : (t.L 1).val < 16 := (t.L 1).isLt
    have hL0 : (t.L 0).val < 2 := (t.L 0).isLt
    refine (congrArg _ hxe).trans (Eq.trans (View.write_emb_of_mem (Val := Elt F) (v := ouB.access (Rect.unit (s := S2x400) off S1x16.size inb)) f w
      (Finset.mem_univ (ix2 (0 : Fin 1) (⟨(x 1).val - 16 * n, hlt16⟩ : Fin 16)))) ?_)
    show w (ix2 (0 : Fin 1) (⟨(x 1).val - 16 * n, hlt16⟩ : Fin 16))
      = nodeV t.el t.pr t.ci ((t.n16 g + (x 1).val) % 1600000 / 16) (ix2 (0 : Fin 1) (⟨(t.n16 g + (x 1).val) % 1600000 % 16, _⟩ : Fin 16))
    have e1 : (t.n16 g + (x 1).val) % 1600000 / 16 = t.node g n := by unfold Run.n16 Run.node; omega
    have e2 : (t.n16 g + (x 1).val) % 1600000 % 16 = (x 1).val - 16 * n := by unfold Run.n16; omega
    rw [hw, e1]
    congr 2
    exact Fin.ext e2.symm

end Node

end Cert.Proof.Tile

end
-- ==== Proof.NodeBody.lean ====
/-
  One trip of the loop over a chunk's nodes, and the loop.
-/
module

public import proofs.«01_k».proof.Proof.Node

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Node

variable [FloatOps F] (t : Run F)

/-- One node's trip: the rows and weights stay, the slot of results holds one node's more. -/
theorem node_body (A B C E : DmaSems sig S2) (v2 c0 c1 : BitVec 32) (k : Fin k0_t1_loop.trips) (v81 : BitVec 32) (g : Fin k0_t2_loop.trips) (u : Unit) :
    iprop(t.roIs (k.val % 2) k.val ∗ t.prIs (k.val % 2) k.val ∗ ouUpTo t (k.val % 2) k.val g.val)
      ⊢ t.wpT (k0_t2_body (F := F) t.L elH (Memref.isWhole_whole _) prH (Memref.isWhole_whole _) ciH (Memref.isWhole_whole _) ouH (Memref.isWhole_whole _)
        ciB (Memref.isWhole_whole _) prB (Memref.isWhole_whole _) roB (Memref.isWhole_whole _) ouB (Memref.isWhole_whole _) A B C E v2 c0 c1 k v81 g u)
        fun _ => iprop(t.roIs (k.val % 2) k.val ∗ t.prIs (k.val % 2) k.val ∗ ouUpTo t (k.val % 2) k.val (g.val + 1)) := by
  have hp : k.val % 2 < 2 := Nat.mod_lt _ (by decide)
  have hk : k.val < 125 := Nat.lt_of_lt_of_le k.isLt k0_t1_abs.2.1
  have hg : g.val < 25 := Nat.lt_of_lt_of_le g.isLt k0_t2_abs.2.1
  unfold k0_t2_body
  iintro ⟨Hr, Hp, Ho⟩
  simp only [Run.wpT_bind]; rw [k0_part1_eq_skeleton]; unfold k0_part1_skel; simp only [Run.wpT_bind, Run.wpT_pure]
  iapply (load_ro t 0 (k0_off13_eq k g 0) hp) $$ Hr; iintro Hr
  iapply (load_ro t 1 (k0_off13_eq k g 1) hp) $$ Hr; iintro Hr
  iapply (load_ro t 2 (k0_off13_eq k g 2) hp) $$ Hr; iintro Hr
  iapply (load_ro t 3 (k0_off13_eq k g 3) hp) $$ Hr; iintro Hr
  iapply (load_ro t 4 (k0_off13_eq k g 4) hp) $$ Hr; iintro Hr
  iapply (load_ro t 5 (k0_off13_eq k g 5) hp) $$ Hr; iintro Hr
  imodintro; try dsimp only
  rw [k0_part2_eq_skeleton]; unfold k0_part2_skel; simp only [Run.wpT_bind, Run.wpT_pure]
  iapply (load_ro t 6 (k0_off13_eq k g 6) hp) $$ Hr; iintro Hr
  iapply (load_ro t 7 (k0_off13_eq k g 7) hp) $$ Hr; iintro Hr
  iapply (load_ro t 8 (k0_off13_eq k g 8) hp) $$ Hr; iintro Hr
  iapply (load_ro t 9 (k0_off13_eq k g 9) hp) $$ Hr; iintro Hr
  iapply (load_ro t 10 (k0_off13_eq k g 10) hp) $$ Hr; iintro Hr
  iapply (load_ro t 11 (k0_off13_eq k g 11) hp) $$ Hr; iintro Hr
  iapply (load_ro t 12 (k0_off13_eq k g 12) hp) $$ Hr; iintro Hr
  imodintro; try dsimp only
  rw [k0_part3_eq_skeleton]; unfold k0_part3_skel; simp only [Run.wpT_bind, Run.wpT_pure]
  iapply (load_ro t 13 (k0_off13_eq k g 13) hp) $$ Hr; iintro Hr
  iapply (load_ro t 14 (k0_off13_eq k g 14) hp) $$ Hr; iintro Hr
  iapply (load_ro t 15 (k0_off13_eq k g 15) hp) $$ Hr; iintro Hr
  iapply (load_ro t 16 (k0_off13_eq k g 16) hp) $$ Hr; iintro Hr
  iapply (load_ro t 17 (k0_off13_eq k g 17) hp) $$ Hr; iintro Hr
  iapply (load_ro t 18 (k0_off13_eq k g 18) hp) $$ Hr; iintro Hr
  iapply (load_ro t 19 (k0_off13_eq k g 19) hp) $$ Hr; iintro Hr
  imodintro; try dsimp only
  rw [k0_part4_eq_skeleton]; unfold k0_part4_skel; simp only [Run.wpT_bind, Run.wpT_pure]
  iapply (load_ro t 20 (k0_off13_eq k g 20) hp) $$ Hr; iintro Hr
  iapply (load_ro t 21 (k0_off13_eq k g 21) hp) $$ Hr; iintro Hr
  iapply (load_ro t 22 (k0_off13_eq k g 22) hp) $$ Hr; iintro Hr
  iapply (load_ro t 23 (k0_off13_eq k g 23) hp) $$ Hr; iintro Hr
  iapply (load_ro t 24 (k0_off13_eq k g 24) hp) $$ Hr; iintro Hr
  iapply (load_ro t 25 (k0_off13_eq k g 25) hp) $$ Hr; iintro Hr
  imodintro; try dsimp only
  rw [k0_part5_eq_skeleton]; unfold k0_part5_skel; simp only [Run.wpT_bind, Run.wpT_pure]
  iapply (load_ro t 26 (k0_off13_eq k g 26) hp) $$ Hr; iintro Hr
  iapply (load_ro t 27 (k0_off13_eq k g 27) hp) $$ Hr; iintro Hr
  iapply (load_ro t 28 (k0_off13_eq k g 28) hp) $$ Hr; iintro Hr
  iapply (load_ro t 29 (k0_off13_eq k g 29) hp) $$ Hr; iintro Hr
  iapply (load_ro t 30 (k0_off13_eq k g 30) hp) $$ Hr; iintro Hr
  iapply (load_ro t 31 (k0_off13_eq k g 31) hp) $$ Hr; iintro Hr
  imodintro; try dsimp only
  rw [k0_part6_eq_skeleton]; unfold k0_part6_skel; simp only [Run.wpT_bind, Run.wpT_pure]
  iapply (load_pr t 0 (k0_off14_eq k g) hp) $$ Hp; iintro Hp
  iapply (load_pr t 16 (k0_off15_eq k g) hp) $$ Hp; iintro Hp
  imodintro; try dsimp only
  rw [k0_part7_eq_skeleton]; unfold k0_part7_skel; simp only [Run.wpT_bind, Run.wpT_pure]
  imodintro; try dsimp only
  rw [k0_part8_eq_skeleton]; unfold k0_part8_skel; simp only [Run.wpT_bind, Run.wpT_pure]
  imodintro; try dsimp only
  rw [k0_part9_eq_skeleton]; unfold k0_part9_skel; simp only [Run.wpT_bind, Run.wpT_pure]
  imodintro; try dsimp only

  iapply (load_ou t (k0_off16_eq k g)) $$ Ho; iintro %_ Ho
  iapply (store_ou t (k0_off16_eq k g) hk hg (by unfold nodeV nodeOut; rfl)) $$ Ho; iintro Ho
  imodintro
  isplitl [Hr]; · iexact Hr
  isplitl [Hp]; · iexact Hp
  iexact Ho

end Node

end Cert.Proof.Tile

end
-- ==== Proof.Chunks.lean ====
/-
  The loop over a tile's 125 chunks. While a chunk's nodes are computed from one slot, the next chunk's rows come into the
  other, and the results of the chunk before go out; what is under way before each trip, and in which slot, is the
  invariant `Run.Inv`.
-/
module

public import proofs.«01_k».proof.Proof.NodeBody

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A step taken only under a condition: with it or without, what it starts from becomes what the rest starts from. -/
theorem wpT_dite [FloatOps F] (t : Run F) {α : Type} {c : Prop} [Decidable c]
    {e : c → Prog (TpuEff nD τ sig (Elt F) Λ₀ (.scVector (cV t.L) (jV t.L))) α}
    {rest : Prog (TpuEff nD τ sig (Elt F) Λ₀ (.scVector (cV t.L) (jV t.L))) α} {Q : α → sProp 𝕄} (P R : sProp 𝕄)
    (h : ∀ hc, P ⊢ iprop((R -∗ t.wpT rest Q) -∗ t.wpT (e hc) Q)) (h' : ¬ c → P ⊢ R) :
    P ⊢ iprop((R -∗ t.wpT rest Q) -∗ t.wpT (dite c e fun _ => rest) Q) := by
  by_cases hc : c
  · rw [dif_pos hc]; exact h hc
  · rw [dif_neg hc]
    iintro HP Hk
    iapply Hk
    iapply (h' hc) $$ HP

theorem cond1_iff : ∀ k : Fin k0_t1_loop.trips, k0_cond1 k = 1#1 ↔ k.val + 1 < 125 := by decide +kernel
theorem cond2_iff : ∀ k : Fin k0_t1_loop.trips, k0_cond2 k = 1#1 ↔ 2 ≤ k.val := by decide +kernel
theorem cond3_iff : ∀ k : Fin k0_t1_loop.trips, k0_cond3 k = 1#1 ↔ k.val + 2 < 125 := by decide +kernel

section Loop

variable [FloatOps F] (t : Run F)

/-- The loop over a chunk's nodes turns a slot of results at any contents into the chunk's results. -/
theorem node_loop (A B C E : DmaSems sig S2) (v2 c0 c1 : BitVec 32) (k : Fin k0_t1_loop.trips) (v81 : BitVec 32) {Q : Unit → sProp 𝕄} :
    iprop(t.roIs (k.val % 2) k.val ∗ t.prIs (k.val % 2) k.val ∗ t.ouAny (k.val % 2))
      ⊢ iprop((iprop(t.roIs (k.val % 2) k.val ∗ t.prIs (k.val % 2) k.val ∗ t.ouIs (k.val % 2) k.val) -∗ Q ⟨⟩)
        -∗ t.wpT (Scf.Loop.for k0_t2_loop k0_t2_ok ⟨⟩ (k0_t2_body (F := F) t.L elH (Memref.isWhole_whole _) prH (Memref.isWhole_whole _) ciH (Memref.isWhole_whole _) ouH (Memref.isWhole_whole _)
        ciB (Memref.isWhole_whole _) prB (Memref.isWhole_whole _) roB (Memref.isWhole_whole _) ouB (Memref.isWhole_whole _) A B C E v2 c0 c1 k v81)) Q) := by
  iintro ⟨Hr, Hp, ⟨%f, Ho⟩⟩ Hk
  iapply (Scf.wp_for frame (wpE (defs₀ (F := F)) 𝒱₀ t.thr none) Set.univ k0_t2_loop.lb k0_t2_loop.ub k0_t2_loop.st k0_t2_ok ⟨⟩
    (k0_t2_body (F := F) t.L elH (Memref.isWhole_whole _) prH (Memref.isWhole_whole _) ciH (Memref.isWhole_whole _) ouH (Memref.isWhole_whole _)
        ciB (Memref.isWhole_whole _) prB (Memref.isWhole_whole _) roB (Memref.isWhole_whole _) ouB (Memref.isWhole_whole _) A B C E v2 c0 c1 k v81)
    (fun n _ => iprop(t.roIs (k.val % 2) k.val ∗ t.prIs (k.val % 2) k.val ∗ ouUpTo t (k.val % 2) k.val n))
    (fun g u => node_body t A B C E v2 c0 c1 k v81 g u))
  isplitl [Hr Hp Ho]
  · isplitl [Hr]; · iexact Hr
    isplitl [Hp]; · iexact Hp
    iexists f
    isplitr
    · ipureintro; intro x _ h; omega
    · iexact Ho
  · iintro %u ⟨Hr, Hp, ⟨%f', %hf, Ho⟩⟩
    iapply Hk
    isplitl [Hr]; · iexact Hr
    isplitl [Hp]; · iexact Hp
    iapply (Entails.of_eq (show (ouB.view.loc t.thr ↦[slotO (k.val % 2)]{fullShare} f' : sProp 𝕄) = t.ouIs (k.val % 2) k.val from
      pointsTo_congr fun x hx => hf x hx (by
        have h1 : (x 1).val < 400 := (x 1).isLt
        have h2 : Scf.trips k0_t2_loop.lb k0_t2_loop.ub k0_t2_loop.st = 25 := by decide +kernel
        rw [h2]; omega))) $$ Ho

end Loop

namespace Run

variable [FloatOps F] (t : Run F)

/-- Slot `p`'s rows at chunk `g`: on their way while there is a chunk `g`, else the slot at rest. -/
def gCh (A : DmaSems sig S2) (p g : ℕ) : sProp 𝕄 :=
  if g < 125 then t.fl A p NG iprop(t.roIs p g ∗ t.elSh p ∗ t.ciIs p g) else iprop(t.roAny p ∗ t.elSh p ∗ t.ciAny p ∗ t.sem0 A p)
/-- Slot `p`'s child numbers at chunk `g`, likewise. -/
def ciCh (A : DmaSems sig S2) (p g : ℕ) : sProp 𝕄 :=
  if g < 125 then t.fl A p NI iprop(t.ciIs p g ∗ t.ciSh p) else iprop(t.ciAny p ∗ t.ciSh p ∗ t.sem0 A p)
/-- Slot `p`'s weights at chunk `g`, likewise. -/
def prCh (A : DmaSems sig S2) (p g : ℕ) : sProp 𝕄 :=
  if g < 125 then t.fl A p NP iprop(t.prIs p g ∗ t.prSh p) else iprop(t.prAny p ∗ t.prSh p ∗ t.sem0 A p)
/-- Slot `p`'s results before chunk `g`'s are computed: those of chunk `g - 2` on their way out, if there is one. -/
def ouCh (A : DmaSems sig S2) (p g : ℕ) : sProp 𝕄 :=
  if 2 ≤ g then t.fl A p NO iprop(t.chIs (g - 2) ∗ t.ouIs p (g - 2)) else iprop(t.ouAny p ∗ t.sem0 A p)
/-- The chunks whose results are out before trip `g` waits, and those whose results are not under way. -/
def done (g : ℕ) : sProp 𝕄 := bigSep (Finset.range (g - 2)) fun n => t.chIs n
def todo (g : ℕ) : sProp 𝕄 := bigSep (Finset.Ico g 125) fun n => t.chAny n

theorem done_succ {g : ℕ} (h : 2 ≤ g) : iprop(t.chIs (g - 2) ∗ t.done g) ⊢ t.done (g + 1) := by
  unfold done
  rw [show g + 1 - 2 = (g - 2) + 1 by omega, Finset.range_add_one, SparseCore.bigSep_insert' Finset.notMem_range_self]

theorem done_small {g : ℕ} (h : g < 2) : t.done g ⊢ t.done (g + 1) := by
  unfold done
  rw [show g + 1 - 2 = g - 2 by omega]

theorem todo_succ {g : ℕ} (h : g < 125) : t.todo g ⊢ iprop(t.chAny g ∗ t.todo (g + 1)) := by
  unfold todo
  rw [← Finset.insert_Ico_add_one_left_eq_Ico h, SparseCore.bigSep_insert' (by simp)]

/-- What a tile holds before trip `g`. -/
def Inv (A B C E : DmaSems sig S2) (g : ℕ) : sProp 𝕄 :=
  iprop(t.gCh C (g % 2) g ∗ (t.ciSh (g % 2) ∗ t.sem0 A (g % 2)) ∗ t.ciCh A ((g + 1) % 2) (g + 1)
    ∗ (t.roAny ((g + 1) % 2) ∗ t.elSh ((g + 1) % 2) ∗ t.sem0 C ((g + 1) % 2))
    ∗ t.prCh B (g % 2) g ∗ t.prCh B ((g + 1) % 2) (g + 1) ∗ t.ouCh E (g % 2) g ∗ t.ouCh E ((g + 1) % 2) (g + 1)
    ∗ t.done g ∗ t.todo g ∗ t.owe)

end Run

section Trip

variable [FloatOps F] (t : Run F) (hin : ∀ y, (t.ci y).toNat < 131072)

include hin

omit [FloatOps F] hin in
theorem nxt (k : ℕ) : 1 - k % 2 = (k + 1) % 2 := by omega

/-- A trip up to the end of the loop over its nodes. -/
theorem part10 (A B C E : DmaSems sig S2) (v2 c0 c1 : BitVec 32) (k : Fin k0_t1_loop.trips) :
    iprop(t.Inv A B C E k.val ∗ t.may)
      ⊢ t.wpT (k0_part10 (F := F) t.L elH (Memref.isWhole_whole _) prH (Memref.isWhole_whole _) ciH (Memref.isWhole_whole _) ouH (Memref.isWhole_whole _)
        ciB (Memref.isWhole_whole _) prB (Memref.isWhole_whole _) roB (Memref.isWhole_whole _) ouB (Memref.isWhole_whole _) A B C E v2 c0 c1 k) fun _ =>
        iprop((t.roIs (k.val % 2) k.val ∗ t.elSh (k.val % 2) ∗ t.sem0 C (k.val % 2)) ∗ (t.ciIs (k.val % 2) k.val ∗ t.ciSh (k.val % 2) ∗ t.sem0 A (k.val % 2))
          ∗ t.gCh C ((k.val + 1) % 2) (k.val + 1) ∗ (t.ciSh ((k.val + 1) % 2) ∗ t.sem0 A ((k.val + 1) % 2))
          ∗ (t.prIs (k.val % 2) k.val ∗ t.prSh (k.val % 2) ∗ t.sem0 B (k.val % 2)) ∗ t.prCh B ((k.val + 1) % 2) (k.val + 1)
          ∗ (t.ouIs (k.val % 2) k.val ∗ t.sem0 E (k.val % 2)) ∗ t.ouCh E ((k.val + 1) % 2) (k.val + 1)
          ∗ t.done (k.val + 1) ∗ t.todo k.val ∗ t.owe) := by
  have hp : k.val % 2 < 2 := Nat.mod_lt _ (by decide)
  have hq : (k.val + 1) % 2 < 2 := Nat.mod_lt _ (by decide)
  have hk : k.val < 125 := Nat.lt_of_lt_of_le k.isLt k0_t1_abs.2.1
  rw [k0_part10_eq_skeleton]; unfold k0_part10_skel; simp only [Run.wpT_bind, Run.wpT_pure]
  unfold Run.Inv
  iintro ⟨⟨Hg, ⟨Hcp, HsA⟩, Hci, ⟨Hro, Hel, HsC⟩, Hprp, Hprq, Houp, Houq, Hdone, Htodo, HO⟩, #Hmw⟩
  -- the next chunk's child numbers are here: its rows are sent for
  iapply (wpT_dite t (iprop((t.ciCh A ((k.val + 1) % 2) (k.val + 1) ∗ t.roAny ((k.val + 1) % 2) ∗ t.elSh ((k.val + 1) % 2) ∗ t.sem0 C ((k.val + 1) % 2)) ∗ t.owe ∗ t.may))
    (iprop(t.gCh C ((k.val + 1) % 2) (k.val + 1) ∗ (t.ciSh ((k.val + 1) % 2) ∗ t.sem0 A ((k.val + 1) % 2)) ∗ t.owe)) ?_ ?_) $$ [Hci Hro Hel HsC HO]
  · intro hc
    have hc' := (cond1_iff k).mp hc
    simp only [Run.wpT_bind, Run.wpT_pure]
    unfold Run.ciCh Run.gCh
    rw [if_pos hc', if_pos hc']
    iintro ⟨⟨Hci, Hro, Hel, HsC⟩, HO, #Hmw⟩ Hk
    iapply (wait_fl t ((k0_off4_eq k).trans (by rw [nxt])) hq rfl) $$ [Hci HO]
    · isplitl [Hci]; · iexact Hci
      isplitl [HO]; · iexact HO
      iexact Hmw
    iintro ⟨⟨Hci, Hcq⟩, HsA, HO⟩
    iapply (start_ro t hin ((k0_off5_eq k).trans (by rw [nxt])) ((k0_off2_eq k).trans (by rw [nxt])) ((k0_off4_eq k).trans (by rw [nxt])) hq) $$ [Hro Hel Hci HsC]
    · isplitl [Hro]; · iexact Hro
      isplitl [Hel]; · iexact Hel
      isplitl [Hci]; · iexact Hci
      iexact HsC
    iintro Hg
    iapply Hk
    isplitl [Hg]; · iexact Hg
    isplitr [HO]; · isplitl [Hcq] <;> iassumption
    iexact HO
  · intro hc
    have hc' : ¬ (k.val + 1 < 125) := fun h => hc ((cond1_iff k).mpr h)
    unfold Run.ciCh Run.gCh
    rw [if_neg hc', if_neg hc']
    iintro ⟨⟨⟨Hci, Hcq, HsA⟩, Hro, Hel, HsC⟩, HO, -⟩
    isplitr [Hcq HsA HO]
    · isplitl [Hro]; · iexact Hro
      isplitl [Hel]; · iexact Hel
      isplitl [Hci]; · iexact Hci
      iexact HsC
    isplitr [HO]; · isplitl [Hcq] <;> iassumption
    iexact HO
  · isplitr [HO]
    · isplitl [Hci]; · iexact Hci
      isplitl [Hro]; · iexact Hro
      isplitl [Hel]; · iexact Hel
      iexact HsC
    isplitl [HO]; · iexact HO
    iexact Hmw
  simp only [Run.wpT_bind, Run.wpT_pure]
  iintro ⟨Hgq, ⟨Hcq, HsAq⟩, HO⟩
  -- this chunk's rows and weights
  ihave Hg := (Entails.of_eq (show t.gCh C (k.val % 2) k.val = _ from if_pos hk)) $$ Hg
  ihave Hprp := (Entails.of_eq (show t.prCh B (k.val % 2) k.val = _ from if_pos hk)) $$ Hprp
  unfold SparseCore.waitIndirectGather
  iapply (wait_fl t (k0_off8_eq k) hp rfl) $$ [Hg HO]
  · isplitl [Hg]; · iexact Hg
    isplitl [HO]; · iexact HO
    iexact Hmw
  iintro ⟨⟨Hro, Hel, Hci⟩, HsC, HO⟩
  iapply (wait_fl t (k0_off8_eq k) hp rfl) $$ [Hprp HO]
  · isplitl [Hprp]; · iexact Hprp
    isplitl [HO]; · iexact HO
    iexact Hmw
  iintro ⟨⟨Hpr, Hprs⟩, HsB, HO⟩
  -- the slot of results is free
  iapply (wpT_dite t (iprop((t.ouCh E (k.val % 2) k.val ∗ t.done k.val) ∗ t.owe ∗ t.may))
    (iprop((t.ouAny (k.val % 2) ∗ t.sem0 E (k.val % 2)) ∗ t.done (k.val + 1) ∗ t.owe)) ?_ ?_) $$ [Houp Hdone HO]
  · intro hc
    have hc' := (cond2_iff k).mp hc
    simp only [Run.wpT_bind, Run.wpT_pure]
    unfold Run.ouCh
    rw [if_pos hc']
    iintro ⟨⟨Ho, Hd⟩, HO, #Hmw⟩ Hk
    iapply (wait_fl t (k0_off12_eq k) hp rfl) $$ [Ho HO]
    · isplitl [Ho]; · iexact Ho
      isplitl [HO]; · iexact HO
      iexact Hmw
    iintro ⟨⟨Hch, Ho⟩, HsE, HO⟩
    iapply Hk
    isplitl [Ho HsE]
    · isplitl [Ho]; · iexists _; iexact Ho
      iexact HsE
    isplitr [HO]
    · iapply (t.done_succ hc')
      isplitl [Hch] <;> iassumption
    iexact HO
  · intro hc
    have hc' : ¬ (2 ≤ k.val) := fun h => hc ((cond2_iff k).mpr h)
    unfold Run.ouCh
    rw [if_neg hc']
    iintro ⟨⟨⟨Ho, HsE⟩, Hd⟩, HO, -⟩
    isplitl [Ho HsE]
    · isplitl [Ho] <;> iassumption
    isplitr [HO]
    · iapply (t.done_small (Nat.lt_of_not_le hc')) $$ Hd
    iexact HO
  · isplitr [HO]
    · isplitl [Houp] <;> iassumption
    isplitl [HO]; · iexact HO
    iexact Hmw
  simp only [Run.wpT_bind, Run.wpT_pure]
  iintro ⟨⟨Ho, HsE⟩, Hdone, HO⟩
  -- the nodes
  iapply (node_loop t A B C E v2 c0 c1 k _) $$ [Hro Hpr Ho]
  · isplitl [Hro]; · iexact Hro
    isplitl [Hpr]; · iexact Hpr
    iexact Ho
  iintro ⟨Hro, Hpr, Ho⟩
  imodintro
  isplitl [Hro Hel HsC]
  · isplitl [Hro]; · iexact Hro
    isplitl [Hel] <;> iassumption
  isplitl [Hci Hcp HsA]
  · isplitl [Hci]; · iexact Hci
    isplitl [Hcp] <;> iassumption
  isplitl [Hgq]; · iexact Hgq
  isplitl [Hcq HsAq]
  · isplitl [Hcq] <;> iassumption
  isplitl [Hpr Hprs HsB]
  · isplitl [Hpr]; · iexact Hpr
    isplitl [Hprs] <;> iassumption
  isplitl [Hprq]; · iexact Hprq
  isplitl [Ho HsE]
  · isplitl [Ho] <;> iassumption
  isplitl [Houq]; · iexact Houq
  isplitl [Hdone]; · iexact Hdone
  isplitl [Htodo] <;> iassumption

/-- A trip of the loop over a tile's chunks. -/
theorem trip (A B C E : DmaSems sig S2) (v2 : BitVec 32) (k : Fin k0_t1_loop.trips) (u : Unit) :
    iprop(t.Inv A B C E k.val ∗ t.may)
      ⊢ t.wpT (k0_t1_body (F := F) t.L elH (Memref.isWhole_whole _) prH (Memref.isWhole_whole _) ciH (Memref.isWhole_whole _) ouH (Memref.isWhole_whole _)
        ciB (Memref.isWhole_whole _) prB (Memref.isWhole_whole _) roB (Memref.isWhole_whole _) ouB (Memref.isWhole_whole _) A B C E v2 k u) fun _ => iprop(t.Inv A B C E (k.val + 1) ∗ t.may) := by
  have hp : k.val % 2 < 2 := Nat.mod_lt _ (by decide)
  have hk : k.val < 125 := Nat.lt_of_lt_of_le k.isLt k0_t1_abs.2.1
  unfold k0_t1_body
  simp only [Run.wpT_bind, Run.wpT_pure]
  iintro ⟨HI, #Hmw⟩
  ihave Hw := (part10 t hin A B C E v2 0#32 1#32 k) $$ [HI]
  · isplitl [HI]; · iexact HI
    iexact Hmw
  iapply (wp_wand) $$ Hw
  iintro %a ⟨⟨Hro, Hel, HsC⟩, ⟨Hci, Hcp, HsA⟩, Hgq, ⟨Hcq, HsAq⟩, ⟨Hpr, Hprs, HsB⟩, Hprq, ⟨Ho, HsE⟩, Houq, Hdone, Htodo, HO⟩
  ihave Htodo := (t.todo_succ hk) $$ Htodo
  icases Htodo with ⟨Hch, Htodo⟩
  iapply (start_ou t (k0_off18_eq t.L k) (k0_off17_eq k) (k0_off8_eq k) hp) $$ [Hch Ho HsE]
  · isplitl [Hch]; · iexact Hch
    isplitl [Ho] <;> iassumption
  iintro Hfl
  iapply (wpT_dite t (iprop((t.ciIs (k.val % 2) k.val ∗ t.ciSh (k.val % 2) ∗ t.sem0 A (k.val % 2)) ∗ t.prIs (k.val % 2) k.val ∗ t.prSh (k.val % 2) ∗ t.sem0 B (k.val % 2)))
    (iprop(t.ciCh A (k.val % 2) (k.val + 2) ∗ t.prCh B (k.val % 2) (k.val + 2))) ?_ ?_) $$ [Hci Hcp HsA Hpr Hprs HsB]
  · intro hc
    have hc' := (cond3_iff k).mp hc
    simp only [Run.wpT_bind, Run.wpT_pure]
    unfold Run.ciCh Run.prCh
    rw [if_pos hc', if_pos hc']
    iintro ⟨⟨Hci, Hcp, HsA⟩, Hpr, Hprs, HsB⟩ Hk
    iapply (start_ci t (g := k.val + 2) ((k0_off20_eq t.L k).trans (by unfold Run.n3; congr 1)) (k0_off19_eq k) (k0_off21_eq k) hp) $$ [Hci Hcp HsA]
    · isplitl [Hci]; · iexists _; iexact Hci
      isplitl [Hcp] <;> iassumption
    iintro Hci
    iapply (start_pr t (g := k.val + 2) ((k0_off20_eq t.L k).trans (by unfold Run.n3; congr 1)) (k0_off19_eq k) (k0_off21_eq k) hp) $$ [Hpr Hprs HsB]
    · isplitl [Hpr]; · iexists _; iexact Hpr
      isplitl [Hprs] <;> iassumption
    iintro Hpr
    iapply Hk
    isplitl [Hci] <;> iassumption
  · intro hc
    have hc' : ¬ (k.val + 2 < 125) := fun h => hc ((cond3_iff k).mpr h)
    unfold Run.ciCh Run.prCh
    rw [if_neg hc', if_neg hc']
    iintro ⟨⟨Hci, Hcp, HsA⟩, Hpr, Hprs, HsB⟩
    isplitl [Hci Hcp HsA]
    · isplitl [Hci]; · iexists _; iexact Hci
      isplitl [Hcp] <;> iassumption
    · isplitl [Hpr]; · iexists _; iexact Hpr
      isplitl [Hprs] <;> iassumption
  · isplitl [Hci Hcp HsA]
    · isplitl [Hci]; · iexact Hci
      isplitl [Hcp] <;> iassumption
    · isplitl [Hpr]; · iexact Hpr
      isplitl [Hprs] <;> iassumption
  simp only [Run.wpT_bind, Run.wpT_pure]
  iintro ⟨Hci, Hpr⟩
  imodintro
  isplitl
  swap; · iexact Hmw
  unfold Run.Inv
  rw [show (k.val + 1 + 1) % 2 = k.val % 2 by omega, show k.val + 1 + 1 = k.val + 2 from rfl]
  isplitl [Hgq]; · iexact Hgq
  isplitl [Hcq HsAq]
  · isplitl [Hcq] <;> iassumption
  isplitl [Hci]; · iexact Hci
  isplitl [Hro Hel HsC]
  · isplitl [Hro]; · iexists _; iexact Hro
    isplitl [Hel] <;> iassumption
  isplitl [Hprq]; · iexact Hprq
  isplitl [Hpr]; · iexact Hpr
  isplitl [Houq]; · iexact Houq
  isplitl [Hfl]
  · iapply (Entails.of_eq (show t.ouCh E (k.val % 2) (k.val + 2) = _ from if_pos (by omega)).symm)
    iexact Hfl
  isplitl [Hdone]; · iexact Hdone
  isplitl [Htodo] <;> iassumption

end Trip

end Cert.Proof.Tile

end
-- ==== Proof.Tile.lean ====
/-
  A tile's whole program: the first two chunks' child numbers and weights and the first chunk's rows are sent for, the
  loop over the chunks runs, and the last two chunks' results are awaited. All the tile's chunks of the results then
  hold what the nodes' values are.
-/
module

public import proofs.«01_k».proof.Proof.Chunks

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace Run

variable (t : Run F)

/-- One slot at rest: its four buffers' halves at any contents, its shares of what the tile reads, its semaphores at zero. -/
def rest (A B C E : DmaSems sig S2) (p : ℕ) : sProp 𝕄 :=
  iprop((t.ciAny p ∗ t.prAny p ∗ t.roAny p ∗ t.ouAny p) ∗ (t.elSh p ∗ t.prSh p ∗ t.ciSh p) ∗ t.sem0 A p ∗ t.sem0 B p ∗ t.sem0 C p ∗ t.sem0 E p)

variable [FloatOps F]

omit [FloatOps F] in
/-- Nothing beside `P` is `P`. -/
theorem emp_sep_one (P : sProp 𝕄) : BIBase.sep BI.emp P = P := emp_sep_eq P

/-- What a tile holds before its first trip. -/
theorem Inv_start (A B C E : DmaSems sig S2) :
    iprop(t.fl C 0 NG iprop(t.roIs 0 0 ∗ t.elSh 0 ∗ t.ciIs 0 0) ∗ (t.ciSh 0 ∗ t.sem0 A 0) ∗ t.fl A 1 NI iprop(t.ciIs 1 1 ∗ t.ciSh 1)
      ∗ (t.roAny 1 ∗ t.elSh 1 ∗ t.sem0 C 1) ∗ t.fl B 0 NP iprop(t.prIs 0 0 ∗ t.prSh 0) ∗ t.fl B 1 NP iprop(t.prIs 1 1 ∗ t.prSh 1)
      ∗ (t.ouAny 0 ∗ t.sem0 E 0) ∗ (t.ouAny 1 ∗ t.sem0 E 1) ∗ t.todo 0 ∗ t.owe) ⊢ t.Inv A B C E 0 := by
  unfold Run.Inv Run.done
  rw [show t.gCh C (0 % 2) 0 = _ from if_pos (by decide), show t.ciCh A ((0 + 1) % 2) (0 + 1) = _ from if_pos (by decide),
    show t.prCh B (0 % 2) 0 = _ from if_pos (by decide), show t.prCh B ((0 + 1) % 2) (0 + 1) = _ from if_pos (by decide),
    show t.ouCh E (0 % 2) 0 = _ from if_neg (by decide), show t.ouCh E ((0 + 1) % 2) (0 + 1) = _ from if_neg (by decide),
    show Finset.range (0 - 2) = ∅ from rfl, bigSep_empty, emp_sep_one]

/-- What a tile holds after its last trip. -/
theorem Inv_end (A B C E : DmaSems sig S2) :
    t.Inv A B C E 125 ⊢ iprop((t.roAny 1 ∗ t.elSh 1 ∗ t.ciAny 1 ∗ t.sem0 C 1) ∗ (t.ciSh 1 ∗ t.sem0 A 1) ∗ (t.ciAny 0 ∗ t.ciSh 0 ∗ t.sem0 A 0)
      ∗ (t.roAny 0 ∗ t.elSh 0 ∗ t.sem0 C 0) ∗ (t.prAny 1 ∗ t.prSh 1 ∗ t.sem0 B 1) ∗ (t.prAny 0 ∗ t.prSh 0 ∗ t.sem0 B 0)
      ∗ t.fl E 1 NO iprop(t.chIs 123 ∗ t.ouIs 1 123) ∗ t.fl E 0 NO iprop(t.chIs 124 ∗ t.ouIs 0 124)
      ∗ (bigSep (Finset.range 123) fun n => t.chIs n) ∗ t.owe) := by
  unfold Run.Inv Run.done Run.todo
  rw [show t.gCh C (125 % 2) 125 = _ from if_neg (by decide), show t.ciCh A ((125 + 1) % 2) (125 + 1) = _ from if_neg (by decide),
    show t.prCh B (125 % 2) 125 = _ from if_neg (by decide), show t.prCh B ((125 + 1) % 2) (125 + 1) = _ from if_neg (by decide),
    show t.ouCh E (125 % 2) 125 = _ from if_pos (by decide), show t.ouCh E ((125 + 1) % 2) (125 + 1) = _ from if_pos (by decide),
    Finset.Ico_self, bigSep_empty, emp_sep_one]

end Run

section Whole

variable [FloatOps F] (t : Run F) (hin : ∀ y, (t.ci y).toNat < 131072)

theorem trips_eq : Scf.trips k0_t1_loop.lb k0_t1_loop.ub k0_t1_loop.st = 125 := by decide +kernel

include hin

/-- The program of a tile, from both slots at rest and its chunks of the results at any contents. -/
theorem body_run (A B C E : DmaSems sig S2) :
    iprop(t.rest A B C E 0 ∗ t.rest A B C E 1 ∗ t.todo 0 ∗ t.owe ∗ t.may)
      ⊢ t.wpT (cc0__body (F := F) t.L elH (Memref.isWhole_whole _) prH (Memref.isWhole_whole _) ciH (Memref.isWhole_whole _) ouH (Memref.isWhole_whole _)
        ciB (Memref.isWhole_whole _) prB (Memref.isWhole_whole _) roB (Memref.isWhole_whole _) ouB (Memref.isWhole_whole _) A B C E) fun _ =>
        iprop(t.rest A B C E 0 ∗ t.rest A B C E 1 ∗ (bigSep (Finset.range 125) fun n => t.chIs n) ∗ t.owe) := by
  rw [cc0__body_eq_skeleton]; unfold cc0__body_skel
  rw [k0_part11_eq_skeleton, k0_part12_eq_skeleton]; unfold k0_part11_skel k0_part12_skel Run.rest
  simp only [Run.wpT_bind, Run.wpT_pure]
  iintro ⟨⟨⟨Hci0, Hpr0, Hro0, Hou0⟩, ⟨He0, Hp0, Hc0⟩, HA0, HB0, HC0, HE0⟩, ⟨⟨Hci1, Hpr1, Hro1, Hou1⟩, ⟨He1, Hp1, Hc1⟩, HA1, HB1, HC1, HE1⟩, Htodo, HO, #Hmw⟩
  iapply (start_ci t (p := 0) (g := 0) (k0_off1_eq t.L 0) rfl rfl (by decide)) $$ [Hci0 Hc0 HA0]
  · isplitl [Hci0]; · iexact Hci0
    isplitl [Hc0] <;> iassumption
  iintro Hci0
  iapply (start_pr t (p := 0) (g := 0) (k0_off1_eq t.L 0) rfl rfl (by decide)) $$ [Hpr0 Hp0 HB0]
  · isplitl [Hpr0]; · iexact Hpr0
    isplitl [Hp0] <;> iassumption
  iintro Hpr0
  iapply (wait_fl t (p := 0) rfl (by decide) rfl) $$ [Hci0 HO]
  · isplitl [Hci0]; · iexact Hci0
    isplitl [HO]; · iexact HO
    iexact Hmw
  iintro ⟨⟨Hci0, Hc0⟩, HA0, HO⟩
  imodintro
  iapply (start_ro t hin (p := 0) (g := 0) rfl rfl rfl (by decide)) $$ [Hro0 He0 Hci0 HC0]
  · isplitl [Hro0]; · iexact Hro0
    isplitl [He0]; · iexact He0
    isplitl [Hci0] <;> iassumption
  iintro Hg
  iapply (start_ci t (p := 1) (g := 1) (k0_off1_eq t.L 1) rfl rfl (by decide)) $$ [Hci1 Hc1 HA1]
  · isplitl [Hci1]; · iexact Hci1
    isplitl [Hc1] <;> iassumption
  iintro Hci1
  iapply (start_pr t (p := 1) (g := 1) (k0_off1_eq t.L 1) rfl rfl (by decide)) $$ [Hpr1 Hp1 HB1]
  · isplitl [Hpr1]; · iexact Hpr1
    isplitl [Hp1] <;> iassumption
  iintro Hpr1
  iapply (Scf.wp_for frame (wpE (defs₀ (F := F)) 𝒱₀ t.thr none) Set.univ k0_t1_loop.lb k0_t1_loop.ub k0_t1_loop.st k0_t1_ok ⟨⟩ _
    (fun n _ => iprop(t.Inv A B C E n ∗ t.may)) (fun k u => trip t hin A B C E _ k u))
  isplitl
  · isplitl
    swap; · iexact Hmw
    iapply (t.Inv_start A B C E)
    isplitl [Hg]; · iexact Hg
    isplitl [Hc0 HA0]; · isplitl [Hc0] <;> iassumption
    isplitl [Hci1]; · iexact Hci1
    isplitl [Hro1 He1 HC1]
    · isplitl [Hro1]; · iexact Hro1
      isplitl [He1] <;> iassumption
    isplitl [Hpr0]; · iexact Hpr0
    isplitl [Hpr1]; · iexact Hpr1
    isplitl [Hou0 HE0]; · isplitl [Hou0] <;> iassumption
    isplitl [Hou1 HE1]; · isplitl [Hou1] <;> iassumption
    isplitl [Htodo] <;> iassumption
  · iintro %u
    rw [trips_eq]
    iintro ⟨HI, -⟩
    imodintro
    ihave HI := (t.Inv_end A B C E) $$ HI
    icases HI with ⟨⟨Hro1, He1, Hci1, HC1⟩, ⟨Hc1, HA1⟩, ⟨Hci0, Hc0, HA0⟩, ⟨Hro0, He0, HC0⟩, ⟨Hpr1, Hp1, HB1⟩, ⟨Hpr0, Hp0, HB0⟩, Hou1, Hou0, Hdone, HO⟩
    iapply (wait_fl t (p := 1) rfl (by decide) rfl) $$ [Hou1 HO]
    · isplitl [Hou1]; · iexact Hou1
      isplitl [HO]; · iexact HO
      iexact Hmw
    iintro ⟨⟨Hch1, Hou1⟩, HE1, HO⟩
    iapply (wait_fl t (p := 0) rfl (by decide) rfl) $$ [Hou0 HO]
    · isplitl [Hou0]; · iexact Hou0
      isplitl [HO]; · iexact HO
      iexact Hmw
    iintro ⟨⟨Hch0, Hou0⟩, HE0, HO⟩
    imodintro
    isplitl [Hci0 Hpr0 Hro0 Hou0 He0 Hp0 Hc0 HA0 HB0 HC0 HE0]
    · isplitl [Hci0 Hpr0 Hro0 Hou0]
      · isplitl [Hci0]; · iexact Hci0
        isplitl [Hpr0]; · iexact Hpr0
        isplitl [Hro0]; · iexact Hro0
        iexists _; iexact Hou0
      isplitl [He0 Hp0 Hc0]
      · isplitl [He0]; · iexact He0
        isplitl [Hp0] <;> iassumption
      isplitl [HA0]; · iexact HA0
      isplitl [HB0]; · iexact HB0
      isplitl [HC0] <;> iassumption
    isplitl [Hci1 Hpr1 Hro1 Hou1 He1 Hp1 Hc1 HA1 HB1 HC1 HE1]
    · isplitl [Hci1 Hpr1 Hro1 Hou1]
      · isplitl [Hci1]; · iexact Hci1
        isplitl [Hpr1]; · iexact Hpr1
        isplitl [Hro1]; · iexact Hro1
        iexists _; iexact Hou1
      isplitl [He1 Hp1 Hc1]
      · isplitl [He1]; · iexact He1
        isplitl [Hp1] <;> iassumption
      isplitl [HA1]; · iexact HA1
      isplitl [HB1]; · iexact HB1
      isplitl [HC1] <;> iassumption
    isplitr [HO]
    · iapply (show iprop(t.chIs 124 ∗ t.chIs 123 ∗ bigSep (Finset.range 123) fun n => t.chIs n) ⊢ bigSep (Finset.range 125) fun n => t.chIs n by
        rw [Finset.range_add_one (n := 124), SparseCore.bigSep_insert' Finset.notMem_range_self,
          Finset.range_add_one (n := 123), SparseCore.bigSep_insert' Finset.notMem_range_self])
      isplitl [Hch0]; · iexact Hch0
      isplitl [Hch1] <;> iassumption
    · iexact HO

end Whole

end Cert.Proof.Tile

end
-- ==== Proof.Scratch.lean ====
/-
  What the launch gives a tile, told as the tile's program wants it: each scratch buffer as its two slots, the eight
  transfer semaphores out of all the tile's semaphores, each share of an array it reads as two halves, one a slot. Then
  the tile's program from what the launch gives to what the launch takes back.
-/
module

public import proofs.«01_k».proof.Proof.Tile
public import Idealize.ShloMosaic.Lib.ShareLeaves
public import Idealize.ShloMosaic.Lib.SparseCore.Quiescent

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

local notation "𝕄" => MT nD τ sig (HIx 1) (Elt F) ℕ UU ℕ

/-! ## A buffer as its two slots -/

section Halves

variable {ℓ : Loc nD τ sig} {S0 S1 : Finset (Idx ℓ)}

/-- A whole buffer at any contents is its two parts, each at any contents. -/
theorem any_parts (hd : Disjoint S0 S1) (hu : S0 ∪ S1 = Finset.univ) :
    (iprop(∃ f, ℓ ↦{fullShare} f) : sProp 𝕄) ⊢ iprop((∃ f, ℓ ↦[S0]{fullShare} f) ∗ ∃ f, ℓ ↦[S1]{fullShare} f) := by
  rw [← hu]
  iintro ⟨%f, H⟩
  ihave H' := (pointsTo_union (f := f) (q := fullShare) hd).1 $$ H
  icases H' with ⟨H0, H1⟩
  isplitl [H0]
  · iexists _; iexact H0
  · iexists _; iexact H1

/-- Two parts at any contents are the whole buffer at any contents. -/
theorem any_whole (hd : Disjoint S0 S1) (hu : S0 ∪ S1 = Finset.univ) :
    iprop((∃ f, ℓ ↦[S0]{fullShare} f) ∗ ∃ f, ℓ ↦[S1]{fullShare} f) ⊢ (iprop(∃ f, ℓ ↦{fullShare} f) : sProp 𝕄) := by
  rw [← hu]
  iintro ⟨⟨%f, H0⟩, %g, H1⟩
  ihave H' := (pointsTo_join (f := f) (g := g) (q := fullShare) hd) $$ [H0 H1]
  · isplitl [H0] <;> iassumption
  iexists _; iexact H'

/-- A share is its two halves. -/
theorem share_halves (f : Buf (Elt F) ℓ) (q : PosShare TreeShare) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

end Halves

theorem slot2_disjoint : Disjoint (slot2 0) (slot2 1) :=
  Finset.disjoint_left.mpr fun _ h h' => by rw [mem_slot2] at h h'; omega
theorem slot2_cover : slot2 0 ∪ slot2 1 = Finset.univ := by
  ext x
  have : (x 0).val < 2 := (x 0).isLt
  simp only [Finset.mem_union, mem_slot2, Finset.mem_univ, iff_true]; omega
theorem slotR_disjoint : Disjoint (slotR 0) (slotR 1) :=
  Finset.disjoint_left.mpr fun _ h h' => by rw [mem_slotR] at h h'; omega
theorem slotR_cover : slotR 0 ∪ slotR 1 = Finset.univ := by
  ext x
  have : (x 0).val < 2 := (x 0).isLt
  simp only [Finset.mem_union, mem_slotR, Finset.mem_univ, iff_true]; omega
theorem slotO_disjoint : Disjoint (slotO 0) (slotO 1) :=
  Finset.disjoint_left.mpr fun _ h h' => by rw [mem_slotO] at h h'; omega
theorem slotO_cover : slotO 0 ∪ slotO 1 = Finset.univ := by
  ext x
  have : (x 0).val < 2 := (x 0).isLt
  simp only [Finset.mem_union, mem_slotO, Finset.mem_univ, iff_true]; omega

/-! ## The semaphores and the scratch buffers out of a tile's own -/

/-- The four pairs of transfer semaphores. -/
def pairs : Fin 4 → DmaSems sig S2 := ![cc0_scratch4, cc0_scratch5, cc0_scratch6, cc0_scratch7]

/-- Semaphore `x.2` of pair `x.1`. -/
def pairSem (x : Fin 4 × Fin 2) : SemLoc sig := .dma (semP (pairs x.1) x.2.val)

theorem pairSem_injective : Function.Injective pairSem := by decide +kernel

theorem pairSem_scoped : ∀ x, (pairSem x).isScoped .scVector = true := by decide +kernel

variable (t : Run F)

/-- The tile's eight transfer semaphores. -/
def eight : Finset (GSem nD τ sig) := Finset.univ.image fun x : Fin 4 × Fin 2 => ((t.thr, pairSem x) : GSem nD τ sig)

theorem ownSems0_tile :
    (ownSems0 t.thr : sProp 𝕄)
      = iprop(((t.sem0 cc0_scratch4 0 ∗ t.sem0 cc0_scratch4 1) ∗ (t.sem0 cc0_scratch5 0 ∗ t.sem0 cc0_scratch5 1)
          ∗ (t.sem0 cc0_scratch6 0 ∗ t.sem0 cc0_scratch6 1) ∗ t.sem0 cc0_scratch7 0 ∗ t.sem0 cc0_scratch7 1)
          ∗ bigSep (ownCells t.thr \ eight t) fun g => semVal g 0) := by
  unfold SparseCore.Cfg.ownSems0
  rw [SparseCore.bigSep_sdiff_split' (t := eight t) (fun g hg => by
    obtain ⟨x, -, rfl⟩ := Finset.mem_image.mp hg
    exact mem_ownCells.mpr ⟨rfl, pairSem_scoped x⟩)]
  refine congrArg (fun X : sProp 𝕄 => iprop(X ∗ bigSep (ownCells t.thr \ eight t) fun g => semVal g 0)) ?_
  unfold eight
  rw [SparseCore.bigSep_image_of_injOn (fun x _ y _ h => pairSem_injective (congrArg Prod.snd h)), bigSep_univ_prod]
  rw [show (Finset.univ : Finset (Fin 4)) = {0, 1, 2, 3} by decide, SparseCore.bigSep_insert' (by decide), SparseCore.bigSep_insert' (by decide),
    SparseCore.bigSep_insert' (by decide), bigSep_singleton, bigSep_fin_two, bigSep_fin_two, bigSep_fin_two, bigSep_fin_two]
  rfl

/-- The tile's own buffers: its four scratch buffers, each at some contents, and the rest. -/
theorem ownBufs_tile :
    (ownBufs t.thr : sProp 𝕄)
      = iprop((∃ f, t.thr.loc cc0_scratch0 ↦{fullShare} f) ∗ (∃ f, t.thr.loc cc0_scratch1 ↦{fullShare} f)
          ∗ (∃ f, t.thr.loc cc0_scratch2 ↦{fullShare} f) ∗ (∃ f, t.thr.loc cc0_scratch3 ↦{fullShare} f)
          ∗ bigSep (((((ownRefs (τ := τ) (.scVector (cV t.L) (jV t.L))).erase ((Proc.scVector (cV t.L) (jV t.L)).devRef cc0_scratch0)).erase
              ((Proc.scVector (cV t.L) (jV t.L)).devRef cc0_scratch1)).erase ((Proc.scVector (cV t.L) (jV t.L)).devRef cc0_scratch2)).erase
              ((Proc.scVector (cV t.L) (jV t.L)).devRef cc0_scratch3))
              fun b => iprop(∃ f, ((t.d, b) : Loc nD τ sig) ↦{fullShare} f)) := by
  have own (r : Ref sig .scVector) (h : ((Proc.scVector (cV t.L) (jV t.L)).devRef r).owner = .proc (Proc.scVector (cV t.L) (jV t.L))) :=
    SparseCore.Cfg.mem_ownRefs_of_owner (p := Proc.scVector (cV t.L) (jV t.L)) (b := (Proc.scVector (cV t.L) (jV t.L)).devRef r) h
  have ne {r r' : Ref sig .scVector} (h : r ≠ r') : (Proc.scVector (cV t.L) (jV t.L)).devRef r ≠ (Proc.scVector (cV t.L) (jV t.L)).devRef r' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (r := cc0_scratch1) (r' := cc0_scratch0) (by decide), own cc0_scratch1 rfl⟩),
    SparseCore.bigSep_erase' (Finset.mem_erase.mpr ⟨ne (r := cc0_scratch2) (r' := cc0_scratch1) (by decide),
      Finset.mem_erase.mpr ⟨ne (r := cc0_scratch2) (r' := cc0_scratch0) (by decide), own cc0_scratch2 rfl⟩⟩),
    SparseCore.bigSep_erase' (Finset.mem_erase.mpr ⟨ne (r := cc0_scratch3) (r' := cc0_scratch2) (by decide),
      Finset.mem_erase.mpr ⟨ne (r := cc0_scratch3) (r' := cc0_scratch1) (by decide),
      Finset.mem_erase.mpr ⟨ne (r := cc0_scratch3) (r' := cc0_scratch0) (by decide), own cc0_scratch3 rfl⟩⟩⟩)]

/-! ## A tile's task -/

section Task

variable (m : (ℓ : Loc nD τ sig) → Buf (Elt F) ℓ)

abbrev eLoc (d : Dev nD) : Loc nD τ sig := (SparseCore.T d).loc main_arg1
abbrev wLoc (d : Dev nD) : Loc nD τ sig := (SparseCore.T d).loc main_arg2
abbrev kLoc (d : Dev nD) : Loc nD τ sig := (SparseCore.T d).loc main_arg4
abbrev cLoc (d : Dev nD) : Loc nD τ sig := (SparseCore.T d).loc main_v0
abbrev oLoc (d : Dev nD) : Loc nD τ sig := (SparseCore.T d).loc main_v1

/-- The table, the weights and the flat child numbers of device `d`. -/
abbrev elD (d : Dev nD) : S131072x16.Idx → F .f32 := m (eLoc d)
abbrev prD (d : Dev nD) : S3200000.Idx → F .f32 := m (wLoc d)
def ciD (d : Dev nD) : S3200000.Idx → BitVec 32 := fun i => shapeCast S3200000 (m (kLoc d) : S100000x32.Idx → BitVec 32) shapeCasts_S100000x32_S3200000 i

/-- Every child number is a row of the table. -/
def InRows : Prop := ∀ (d : Dev nD) (j : S100000x32.Idx), ((m (kLoc d) : S100000x32.Idx → BitVec 32) j).toNat < 131072

theorem ciD_lt (h : InRows m) (d : Dev nD) (y : S3200000.Idx) : (ciD m d y).toNat < 131072 := h d _

/-- The share of what it reads that tile `s` of core `c` reads through. -/
abbrev tq (c : Fin 2) (s : Fin 16) : PosShare TreeShare := leaf 5 fullShare (Fin.cast (by decide) (finProdFinEquiv (c, s)))

/-- The tile at coordinates `L` as a run: each slot reads through half the tile's share. -/
def runOf (d : Dev nD) (L : grid0.Coords) (q : PosShare TreeShare) (O : CellTallies nD τ sig (HIx 1)) (W : Waits sig (HIx 1)) : Run F where
  d := d
  L := L
  el := elD m d
  pr := prD m d
  ci := ciD m d
  qe p := if p = 0 then q.left else q.right
  qp p := if p = 0 then q.left else q.right
  qc p := if p = 0 then q.left else q.right
  O := O
  W := W

/-- What tile `s` of core `c` reads, at its share. -/
abbrev reads (d : Dev nD) (c : Fin 2) (s : Fin 16) : sProp 𝕄 :=
  iprop((eLoc d ↦{tq c s} elD m d) ∗ (wLoc d ↦{tq c s} prD m d) ∗ cLoc d ↦{tq c s} (ciD m d : Buf (Elt F) (cLoc d)))
/-- Chunk `g` of tile `s` of core `c`, as a set of places of the flat array of results. -/
abbrev tileChunk (c : Fin 2) (s : Fin 16) (g : ℕ) : Finset S1600000.Idx := chunk (250 * s.val + 125 * c.val + g)
/-- A tile's task before: what it reads, and its chunks of the results at any contents. -/
abbrev tileIn (d : Dev nD) (c : Fin 2) (s : Fin 16) : sProp 𝕄 :=
  iprop(reads m d c s ∗ bigSep (Finset.range 125) fun g => iprop(∃ f, oLoc d ↦[tileChunk c s g]{fullShare} f))
variable [FloatOps F]
/-- The flat results of device `d`. -/
@[irreducible] def outD (d : Dev nD) : Buf (Elt F) (oLoc d) := outV (elD m d) (prD m d) (ciD m d)

theorem outD_eq (d : Dev nD) : outD m d = outV (elD m d) (prD m d) (ciD m d) := by unfold outD; rfl

/-- A tile's task after: what it reads, and its chunks at the results. -/
abbrev tileOut (d : Dev nD) (c : Fin 2) (s : Fin 16) : sProp 𝕄 :=
  iprop(reads m d c s ∗ bigSep (Finset.range 125) fun g => oLoc d ↦[tileChunk c s g]{fullShare} outD m d)

abbrev cL (L : grid0.Coords) : Fin 2 := L 0
abbrev sL (L : grid0.Coords) : Fin 16 := L 1

/-- The program of a tile from what the launch gives it to what the launch takes back. -/
theorem tile_body (hF : (K (F := F)).Facts) (hpre : InRows m) (d : Dev nD) (L : grid0.Coords)
    (O : CellTallies nD τ sig (HIx 1)) (W : Waits sig (HIx 1)) (hO : ∀ g, O g none = 0) :
    iprop(levAts (K (F := F)).L (K (F := F)).lev ∗ emp ∗ tileIn m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body (F := F) L elH (Memref.isWhole_whole _) prH (Memref.isWhole_whole _) ciH (Memref.isWhole_whole _) ouH (Memref.isWhole_whole _)
            ciB (Memref.isWhole_whole _) prB (Memref.isWhole_whole _) roB (Memref.isWhole_whole _) ouB (Memref.isWhole_whole _)
            cc0_scratch4 cc0_scratch5 cc0_scratch6 cc0_scratch7)
          fun _ => iprop(tileOut m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    show (ownSems0 (V d (cV L) (jV L)) : sProp 𝕄) = _ from ownSems0_tile (runOf m d L (tq (cL L) (sL L)) O W),
    show (ownBufs (V d (cV L) (jV L)) : sProp 𝕄) = _ from ownBufs_tile (runOf m d L (tq (cL L) (sL L)) O W)]
  unfold tileIn tileOut reads
  rw [outD_eq, share_halves (F := F) (ℓ := eLoc d) (elD m d), share_halves (F := F) (ℓ := wLoc d) (prD m d), share_halves (F := F) (ℓ := cLoc d) (ciD m d)]
  have hb := body_run (runOf m d L (tq (cL L) (sL L)) O W) (ciD_lt m hpre d) cc0_scratch4 cc0_scratch5 cc0_scratch6 cc0_scratch7
  unfold Run.rest Run.todo at hb
  rw [show Finset.Ico 0 125 = Finset.range 125 from (Finset.range_eq_Ico 125).symm] at hb
  iintro ⟨#Hlv, -, ⟨⟨⟨He0, He1⟩, ⟨Hp0, Hp1⟩, Hc0, Hc1⟩, Hch⟩, ⟨Hci, Hpr, Hro, Hou, Hbufs⟩, ⟨⟨⟨HA0, HA1⟩, ⟨HB0, HB1⟩, ⟨HC0, HC1⟩, HE0, HE1⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hci' := (any_parts (F := F) slot2_disjoint slot2_cover) $$ Hci
  icases Hci' with ⟨Hci0, Hci1⟩
  ihave Hpr' := (any_parts (F := F) slot2_disjoint slot2_cover) $$ Hpr
  icases Hpr' with ⟨Hpr0, Hpr1⟩
  ihave Hro' := (any_parts (F := F) slotR_disjoint slotR_cover) $$ Hro
  icases Hro' with ⟨Hro0, Hro1⟩
  ihave Hou' := (any_parts (F := F) slotO_disjoint slotO_cover) $$ Hou
  icases Hou' with ⟨Hou0, Hou1⟩
  ihave Hw := hb $$ [He0 He1 Hp0 Hp1 Hc0 Hc1 Hch Hci0 Hci1 Hpr0 Hpr1 Hro0 Hro1 Hou0 Hou1 HA0 HA1 HB0 HB1 HC0 HC1 HE0 HE1 HO]
  · isplitl [He0 Hp0 Hc0 Hci0 Hpr0 Hro0 Hou0 HA0 HB0 HC0 HE0]
    · isplitl [Hci0 Hpr0 Hro0 Hou0]
      · isplitl [Hci0]; · iexact Hci0
        isplitl [Hpr0]; · iexact Hpr0
        isplitl [Hro0] <;> iassumption
      isplitl [He0 Hp0 Hc0]
      · isplitl [He0]; · iexact He0
        isplitl [Hp0]; · iexact Hp0
        iexact Hc0
      isplitl [HA0]; · iexact HA0
      isplitl [HB0]; · iexact HB0
      isplitl [HC0] <;> iassumption
    isplitl [He1 Hp1 Hc1 Hci1 Hpr1 Hro1 Hou1 HA1 HB1 HC1 HE1]
    · isplitl [Hci1 Hpr1 Hro1 Hou1]
      · isplitl [Hci1]; · iexact Hci1
        isplitl [Hpr1]; · iexact Hpr1
        isplitl [Hro1] <;> iassumption
      isplitl [He1 Hp1 Hc1]
      · isplitl [He1]; · iexact He1
        isplitl [Hp1]; · iexact Hp1
        iexact Hc1
      isplitl [HA1]; · iexact HA1
      isplitl [HB1]; · iexact HB1
      isplitl [HC1] <;> iassumption
    isplitl [Hch]; · iexact Hch
    isplitl [HO]
    · iexists W
      isplitr
      · ipureintro; exact fun p hp => .inl hp
      · iexact HO
    iexact Hmw
  iapply (wp_wand frame _ _) $$ Hw
  iintro %_ ⟨⟨⟨Hci0, Hpr0, Hro0, Hou0⟩, ⟨He0, Hp0, Hc0⟩, HA0, HB0, HC0, HE0⟩, ⟨⟨Hci1, Hpr1, Hro1, Hou1⟩, ⟨He1, Hp1, Hc1⟩, HA1, HB1, HC1, HE1⟩, Hch, HO⟩
  isplitl [He0 He1 Hp0 Hp1 Hc0 Hc1 Hch]
  · isplitr [Hch]
    · isplitl [He0 He1]
      · isplitl [He0]; · iexact He0
        iexact He1
      isplitl [Hp0 Hp1]
      · isplitl [Hp0]; · iexact Hp0
        iexact Hp1
      isplitl [Hc0]; · iexact Hc0
      iexact Hc1
    iexact Hch
  isplitl [Hci0 Hci1 Hpr0 Hpr1 Hro0 Hro1 Hou0 Hou1 Hbufs]
  · isplitl [Hci0 Hci1]
    · iapply (any_whole (F := F) slot2_disjoint slot2_cover); isplitl [Hci0] <;> iassumption
    isplitl [Hpr0 Hpr1]
    · iapply (any_whole (F := F) slot2_disjoint slot2_cover); isplitl [Hpr0] <;> iassumption
    isplitl [Hro0 Hro1]
    · iapply (any_whole (F := F) slotR_disjoint slotR_cover); isplitl [Hro0] <;> iassumption
    isplitl [Hou0 Hou1]
    · iapply (any_whole (F := F) slotO_disjoint slotO_cover); isplitl [Hou0] <;> iassumption
    iexact Hbufs
  isplitl [HA0 HA1 HB0 HB1 HC0 HC1 HE0 HE1 Hsems]
  · isplitr [Hsems]
    · isplitl [HA0 HA1]
      · isplitl [HA0] <;> iassumption
      isplitl [HB0 HB1]
      · isplitl [HB0] <;> iassumption
      isplitl [HC0 HC1]
      · isplitl [HC0] <;> iassumption
      isplitl [HE0] <;> iassumption
    iexact Hsems
  iexact HO

end Task

end Cert.Proof.Tile

end
-- ==== Proof.Launch.lean ====
/-
  The whole program: the child numbers flattened, the call on the 32 tiles, the flat results reshaped. The arrays the
  tiles read go to each at a share, the flat array of results chunk by chunk, and all of it comes back. The conclusion
  is the run of the program: it ends, the arguments are as they were, the result is the tiles' results, and every
  semaphore is at zero again.
-/
module

public import proofs.«01_k».proof.Proof.Scratch
public import Idealize.ShloMosaic.Lib.SparseCore.Ops
public import Idealize.ShloMosaic.Lib.StableHlo.Run
public import Idealize.ShloMosaic.Lib.Pipeline.Kit

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays dealt to the tiles -/

section Deal

/-- A whole array is its 32 shares, one a tile. -/
theorem dealt {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [pointsTo_leaves Finset.univ f 5 fullShare,
    bigSep_univ_equiv (finProdFinEquiv.trans (finCongr (show 2 * 16 = 2 ^ 5 by decide))) (fun i : Fin (2 ^ 5) => (ℓ ↦{leaf 5 fullShare i} f : sProp 𝕄)),
    bigSep_univ_prod]
  rfl

/-- The tiles' chunks, all of them. -/
abbrev chunkNo (x : (Fin 2 × Fin 16) × ℕ) : ℕ := 250 * x.1.2.val + 125 * x.1.1.val + x.2
abbrev allChunks : Finset ((Fin 2 × Fin 16) × ℕ) := Finset.univ ×ˢ Finset.range 125

theorem chunks_disjoint : ∀ x ∈ allChunks, ∀ y ∈ allChunks, x ≠ y → Disjoint (chunk (chunkNo x)) (chunk (chunkNo y)) := by
  intro x hx y hy hne
  refine Finset.disjoint_left.mpr fun z h h' => hne ?_
  rw [mem_chunk] at h h'
  have hx' := Finset.mem_range.mp (Finset.mem_product.mp hx).2
  have hy' := Finset.mem_range.mp (Finset.mem_product.mp hy).2
  have h1 := x.1.1.isLt; have h2 := y.1.1.isLt; have h3 := x.1.2.isLt; have h4 := y.1.2.isLt
  have e : chunkNo x = chunkNo y := h.symm.trans h'
  unfold chunkNo at e
  refine Prod.ext (Prod.ext (Fin.ext ?_) (Fin.ext ?_)) ?_ <;> omega

theorem chunks_cover : allChunks.biUnion (fun x => chunk (chunkNo x)) = Finset.univ := by
  ext z
  have hz : (z 0).val < 1600000 := (z 0).isLt
  simp only [Finset.mem_biUnion, Finset.mem_univ, iff_true, mem_chunk]
  refine ⟨((⟨(z 0).val / 400 % 250 / 125, by omega⟩, ⟨(z 0).val / 400 / 250, by omega⟩), (z 0).val / 400 % 125), ?_, ?_⟩
  · exact Finset.mem_product.mpr ⟨Finset.mem_univ _, Finset.mem_range.mpr (by show (z 0).val / 400 % 125 < 125; omega)⟩
  · show (z 0).val / 400 = 250 * ((z 0).val / 400 / 250) + 125 * ((z 0).val / 400 % 250 / 125) + (z 0).val / 400 % 125
    omega

/-- The flat array of results is its chunks, tile by tile. -/
theorem oPts_chunks (d : Dev nD) (f : Buf (Elt F) (oLoc d)) :
    (oLoc d ↦{fullShare} f : sProp 𝕄) = bigSep Finset.univ fun c : Fin 2 => bigSep Finset.univ fun s : Fin 16 =>
      bigSep (Finset.range 125) fun g => oLoc d ↦[tileChunk c s g]{fullShare} f := by
  have h := pointsTo_biUnion (Ix := HIx 1) (Val := Elt F) (Name := ℕ) (U := UU) (Lvl := ℕ) (ℓ := oLoc d) (q := fullShare) (f := f)
    allChunks (fun x => chunk (chunkNo x)) chunks_disjoint
  rw [chunks_cover, SparseCore.bigSep_product, bigSep_univ_prod] at h
  exact h

end Deal

/-! ## What the handshakes carry -/

section Program

variable (m : (ℓ : Loc nD τ sig) → Buf (Elt F) ℓ) (ρ : Dev nD → PrngReg)
variable [FloatOps F]

/-- A core's tasks before and after: those of its tiles. -/
def coreIn (d : Dev nD) (c : Fin 2) : sProp 𝕄 := bigSep Finset.univ fun s : Fin 16 => tileIn m d c s
def coreOut (d : Dev nD) (c : Fin 2) : sProp 𝕄 := bigSep Finset.univ fun s : Fin 16 => tileOut m d c s

instance coreIn_storable (d : Dev nD) (c : Fin 2) : BI.Storable (upEmb : UEmb _ 𝕄) (coreIn m d c) := by unfold coreIn; infer_instance
instance coreOut_storable (d : Dev nD) (c : Fin 2) : BI.Storable (upEmb : UEmb _ 𝕄) (coreOut m d c) := by unfold coreOut; infer_instance

/-- The call takes each core's tiles' tasks, and each tile its own. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

theorem P_st (d : Dev nD) (c : Fin ((K (F := F)).nCore 0)) : (P m).st 0 d c = coreIn m d (Fin.cast nCore_zero c) := by unfold P; dsimp only
theorem P_dn (d : Dev nD) (c : Fin ((K (F := F)).nCore 0)) : (P m).dn 0 d c = coreOut m d (Fin.cast nCore_zero c) := by unfold P; dsimp only
theorem P_go (d : Dev nD) (c : Fin ((K (F := F)).nCore 0)) (i : Fin ((K (F := F)).nSub 0)) :
    (P m).go 0 d c i = tileIn m d (Fin.cast nCore_zero c) (Fin.cast nSub_zero i) := by unfold P; dsimp only
theorem P_td (d : Dev nD) (c : Fin ((K (F := F)).nCore 0)) (i : Fin ((K (F := F)).nSub 0)) :
    (P m).td 0 d c i = tileOut m d (Fin.cast nCore_zero c) (Fin.cast nSub_zero i) := by unfold P; dsimp only

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          elH (Memref.isWhole_whole _) prH (Memref.isWhole_whole _) ciH (Memref.isWhole_whole _) ouH (Memref.isWhole_whole _)
          ciB (Memref.isWhole_whole _) prB (Memref.isWhole_whole _) roB (Memref.isWhole_whole _) ouB (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (coordsV ⟨_, hci.1⟩ ⟨_, hci.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  simp only [P_st, P_dn, P_go, P_td]
  rw [bigSep_tasks (F := F) (fun i => tileIn m d (Fin.cast nCore_zero c) i), bigSep_tasks (F := F) (fun i => tileOut m d (Fin.cast nCore_zero c) i)]
  unfold coreIn coreOut
  iintro H; imodintro
  isplitl [H]; · iexact H
  iintro H; iexact H

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays of @main -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev opFlat : HloOp τ sig (Elt F) := StableHlo.reshape main_arg4 main_v0 (rfl : (.i32 : EltTy) = .i32) shapeCasts_S100000x32_S3200000
abbrev opRows : HloOp τ sig (Elt F) := StableHlo.reshape main_v1 main_v2 (rfl : (.f32 : EltTy) = .f32) shapeCasts_S1600000_S100000x16

/-- The arrays of @main, and those the call takes. -/
abbrev S9 : Finset (DevRef τ sig) := {a1', a2', v0', v1', a0', a3', a4', a5', v2'}
abbrev S5 : Finset (DevRef τ sig) := {a0', a3', a4', a5', v2'}

omit [FloatOps F] in
theorem held_S9 (d : Dev nD) (W : Valuation τ sig (Elt F)) :
    (held (T d) S9 W : sProp 𝕄)
      = iprop((eLoc d ↦{fullShare} W a1') ∗ (wLoc d ↦{fullShare} W a2') ∗ (cLoc d ↦{fullShare} W v0') ∗ (oLoc d ↦{fullShare} W v1') ∗ held (T d) S5 W) := by
  unfold held S9
  rw [SparseCore.bigSep_insert' (by decide), SparseCore.bigSep_insert' (by decide), SparseCore.bigSep_insert' (by decide),
    SparseCore.bigSep_insert' (by decide)]

omit [FloatOps F] in
theorem unscoped_held (d : Dev nD) (W : Valuation τ sig (Elt F)) :
    (unscopedBufs d (fun b => W (Proc.devRef .tc b)) : sProp 𝕄) = held (T d) S9 W := by
  unfold unscopedBufs held
  rw [show (Finset.univ.filter fun b : Ref sig .tc => ¬ b.isScoped)
      = {main_arg1, main_arg2, main_v0, main_v1, main_arg0, main_arg3, main_arg4, main_arg5, main_v2} by decide,
    show (S9 : Finset (DevRef τ sig)) = ({main_arg1, main_arg2, main_v0, main_v1, main_arg0, main_arg3, main_arg4, main_arg5, main_v2} : Finset (Ref sig .tc)).image
      (Proc.devRef .tc) by decide,
    SparseCore.bigSep_image_of_injOn (fun _ _ _ _ h => Proc.devRef_injective _ h)]

/-- The launch contents, those before the call, after it, and at the end. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) v1' (outD m d)
def V3 (d : Dev nD) : Valuation τ sig (Elt F) := (opRows (F := F)).result (V2 m d)

theorem V1_ne (d : Dev nD) (b : DevRef τ sig) (h : b ∉ ({v0'} : Finset (DevRef τ sig))) : V1 m d b = m (d, b) :=
  (opFlat (F := F)).result_of_not_mem _ h
theorem V1_v0 (d : Dev nD) : V1 m d v0' = (ciD m d : Buf (Elt F) (cLoc d)) := StableHlo.reshape_result _ _ _ _ _ _ _

theorem V3_ne (d : Dev nD) (b : DevRef τ sig) (h : b ∉ ({v2'} : Finset (DevRef τ sig))) (h' : b ∉ ({v1'} : Finset (DevRef τ sig)))
    (h'' : b ∉ ({v0'} : Finset (DevRef τ sig))) : V3 m d b = m (d, b) :=
  ((opRows (F := F)).result_of_not_mem _ h).trans ((Function.update_of_ne (fun e => h' (Finset.mem_singleton.mpr e)) _ _).trans (V1_ne m d b h''))

/-- The result of device `d`: the flat results, sixteen a row. -/
def resD (d : Dev nD) : S100000x16.Idx → F .f32 := fun i => shapeCast S100000x16 (outD m d : S1600000.Idx → F .f32) shapeCasts_S1600000_S100000x16 i

theorem V3_v2 (d : Dev nD) : V3 m d v2' = (resD m d : Buf (Elt F) ((SparseCore.T d).loc main_v2)) :=
  (StableHlo.reshape_result _ _ _ _ _ _ _).trans (by
    rw [show V2 m d (Proc.devRef .tc main_v1) = outD m d from Function.update_self _ _ _]
    rfl)

theorem st0_eq (d : Dev nD) : (bigSep Finset.univ fun c : Fin ((K (F := F)).nCore 0) => (P m).st 0 d c)
    = bigSep Finset.univ fun c : Fin 2 => coreIn m d c := by
  simp only [P_st]
  exact bigSep_cores (F := F) fun c => coreIn m d c
theorem dn0_eq (d : Dev nD) : (bigSep Finset.univ fun c : Fin ((K (F := F)).nCore 0) => (P m).dn 0 d c)
    = bigSep Finset.univ fun c : Fin 2 => coreOut m d c := by
  simp only [P_dn]
  exact bigSep_cores (F := F) fun c => coreOut m d c

/-- What the tiles read, whole. -/
abbrev wholes (d : Dev nD) : sProp 𝕄 :=
  iprop((eLoc d ↦{fullShare} elD m d) ∗ (wLoc d ↦{fullShare} prD m d) ∗ cLoc d ↦{fullShare} (ciD m d : Buf (Elt F) (cLoc d)))

omit [FloatOps F] in
theorem reads_dealt (d : Dev nD) : (bigSep Finset.univ fun c : Fin 2 => bigSep Finset.univ fun s : Fin 16 => reads m d c s) = wholes m d := by
  unfold wholes reads
  simp only [bigSep_sep']
  rw [← dealt, ← dealt, ← dealt]

/-- Dealing the call's arrays to the tiles, and gathering them. -/
theorem dealIn (d : Dev nD) (f : Buf (Elt F) (oLoc d)) :
    iprop(wholes m d ∗ oLoc d ↦{fullShare} f) ⊢ bigSep Finset.univ fun c : Fin 2 => coreIn m d c := by
  unfold coreIn
  rw [oPts_chunks, ← reads_dealt]
  simp only [← bigSep_sep']
  refine bigSep_mono fun c _ => bigSep_mono fun s _ => ?_
  show iprop(reads m d c s ∗ bigSep (Finset.range 125) fun g => oLoc d ↦[tileChunk c s g]{fullShare} f) ⊢ tileIn m d c s
  refine BI.sep_mono (BI.Entails.refl _) (bigSep_mono fun g _ => ?_)
  exact BIClass.exists_intro (Φ := fun f => (oLoc d ↦[tileChunk c s g]{fullShare} f : sProp 𝕄)) f
theorem dealOut (d : Dev nD) :
    (bigSep Finset.univ fun c : Fin 2 => coreOut m d c) ⊢ iprop(wholes m d ∗ oLoc d ↦{fullShare} outD m d) := by
  unfold coreOut
  rw [oPts_chunks, ← reads_dealt]
  simp only [← bigSep_sep']
  exact BI.Entails.refl _

theorem hFlat : (opFlat (F := F)).bufs ⊆ S9 := show ({a4', v0'} : Finset (DevRef τ sig)) ⊆ S9 by decide
theorem hRows : (opRows (F := F)).bufs ⊆ S9 := show ({v1', v2'} : Finset (DevRef τ sig)) ⊆ S9 by decide

theorem held_V1 (d : Dev nD) :
    (held (T d) S9 ((opFlat (F := F)).result (V0 m d)) : sProp 𝕄)
      = iprop((eLoc d ↦{fullShare} elD m d) ∗ (wLoc d ↦{fullShare} prD m d) ∗ (cLoc d ↦{fullShare} (ciD m d : Buf (Elt F) (cLoc d)))
          ∗ (oLoc d ↦{fullShare} V1 m d v1') ∗ held (T d) S5 (V1 m d)) := by
  show held (T d) S9 (V1 m d) = _
  rw [held_S9, V1_v0, V1_ne m d a1' (by decide), V1_ne m d a2' (by decide)]

theorem held_V2 (d : Dev nD) :
    (held (T d) S9 (V2 m d) : sProp 𝕄)
      = iprop((eLoc d ↦{fullShare} elD m d) ∗ (wLoc d ↦{fullShare} prD m d) ∗ (cLoc d ↦{fullShare} (ciD m d : Buf (Elt F) (cLoc d)))
          ∗ (oLoc d ↦{fullShare} outD m d) ∗ held (T d) S5 (V1 m d)) := by
  have hne (b : DevRef τ sig) (h : b ≠ v1') : V2 m d b = V1 m d b := Function.update_of_ne h _ _
  have hr : (held (T d) S5 (V2 m d) : sProp 𝕄) = held (T d) S5 (V1 m d) := by
    unfold held
    exact bigSep_congr fun b hb => by rw [hne b (fun e => absurd hb (by rw [e]; decide))]
  rw [held_S9, hr, hne a1' (by decide), hne a2' (by decide), hne v0' (by decide), V1_v0, V1_ne m d a1' (by decide), V1_ne m d a2' (by decide),
    show V2 m d v1' = outD m d from Function.update_self _ _ _]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) S9 (V3 m d) ∗ (K (F := F)).tcEnd d) := by
  unfold SparseCore.Cfg.tcRes SparseCore.Cfg.tcEnd
  rw [show (unscopedBufs d (fun b => m ((SparseCore.T d).loc b)) : sProp 𝕄) = held (T d) S9 (V0 m d) from unscoped_held d (V0 m d)]
  simp only [main, wp_bind, wp_pure]
  iintro ⟨#Hctx, Hst, ⟨Hb, Hheld, Hts, -⟩, -⟩
  iapply (wp_hlo_within 𝒱 (SparseCore.T d) none Set.univ (op := opFlat) (S := S9) hFlat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨He, Hw, Hc, Ho, Hrest⟩
  iapply ((K (F := F)).wp_run (D (F := F)) 𝒱 (EH := EH) (P := P m) κ d 0) $$ [Hst He Hw Hc Ho Hb Hrest Hts]
  isplitr; · iexact Hctx
  isplitl [Hst]; · iexact Hst
  isplitl [He Hw Hc Ho]
  · rw [st0_eq]
    iapply (dealIn m d _)
    isplitl [He Hw Hc]
    · isplitl [He]; · iexact He
      isplitl [Hw] <;> iassumption
    iexact Ho
  iintro ⟨Hst, Hdn⟩
  ihave Hdn' := (Entails.of_eq (dn0_eq m d)) $$ Hdn
  ihave Hdn'' := (dealOut m d) $$ Hdn'
  icases Hdn'' with ⟨⟨He, Hw, Hc⟩, Ho⟩
  iapply (wp_hlo_within 𝒱 (SparseCore.T d) none Set.univ (op := opRows) (S := S9) hRows (V := V2 m d)) $$ [Hb He Hw Hc Ho Hrest]
  · isplitl [Hb]; · iexact Hb
    rw [held_V2]
    isplitl [He]; · iexact He
    isplitl [Hw]; · iexact Hw
    isplitl [Hc]; · iexact Hc
    isplitl [Ho]; · iexact Ho
    iexact Hrest
  iintro ⟨Hb, Hheld⟩
  rw [wp_ret]; imodintro; imodintro
  isplitl [Hst]; · iexact Hst
  isplitl [Hheld]; · iexact Hheld
  isplitl [Hb] <;> iassumption

/-- What the claims read of device `d`'s final state. -/
def fq (d : Dev nD) (s' : Phys nD τ sig (Elt F)) : Prop := ∀ b ∈ S9, s'.mem.mem (d, b) = V3 m d b

theorem hfin (d : Dev nD) (s' : Phys nD τ sig (Elt F)) : iprop(held (T d) S9 (V3 m d) ∗ SI s') ⊢ (⌜fq m d s'⌝ : sProp 𝕄) := by
  unfold held
  iintro ⟨H, HSI⟩
  ihave %h := (SI_pointsTo_bufs_agree (qs := fun _ => fullShare) (S9)) $$ [HSI H]
  · isplitl [HSI]; · iexact HSI
    iexact H
  ipureintro
  exact fun b hb => h b hb

/-- The end of a run: the arguments as they were, the result `resD`, every semaphore at zero. -/
def QC : PUnit × MemSt nD τ sig (Elt F) → Prop := fun r => (∀ d : Dev nD, ∀ b ∈ S9, r.2.mem (d, b) = V3 m d b) ∧ r.2.sem = fun _ => 0

/-- Every run of the program ends so, from any memory whose child numbers are rows of the table. -/
theorem run_main [∀ e, Nonempty (Elt F e)] (hpre : InRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => held (T d) S9 (V3 m d)) (u₀ (F := F)) (sep_elim_left.trans (hu₀ m)) (hmain m ρ) (fq m) (hfin m) (QC m) (fun _ h hz => ⟨h, hz⟩)

end Program

end Cert.Proof.Tile

end
-- ==== Proof.Drawn.lean ====
/-
  What the precondition says, word by word: every child number is a row of the table, the node numbers are 0, 1, 2, …
  in order, and so are the weights' places, row after row.
-/
module

public import proofs.«01_k».proof.Proof.Launch
public import proofs.«01_k».proof.Proof.Gen.Pre_drawn
public import Idealize.ShloMosaic.Lib.WordCmp
public import Idealize.ShloMosaic.Lib.Pipeline.Value

@[expose] public section

noncomputable section

namespace Cert.Proof.Drawn

open Cert.Pre_drawn Cert.Pre_drawn.Facts
open Idealize.ShloMosaic Idealize.ShloMosaic.WordCmp
open Idealize.ShloMosaic.ValueIdx (ix1 ix2 ix3 eq_ix1 eq_ix2 eq_ix3)

/-- The `and` of two bits is one only if both are. -/
theorem and_one {a b : BitVec 1} (h : IntOp.andi a b = 1#1) : a = 1#1 ∧ b = 1#1 := by
  revert h; unfold IntOp.andi; revert a b; decide

/-- A running `and` that ends at one started at one and met only ones. -/
theorem fold_one {ι : Type} (x : ι → BitVec 1) : ∀ (l : List ι) (a : BitVec 1),
    l.foldl (fun r n => IntOp.andi r (x n)) a = 1#1 → a = 1#1 ∧ ∀ n ∈ l, x n = 1#1
  | [], _, h => ⟨h, fun _ hn => nomatch hn⟩
  | k :: l, a, h => by
    obtain ⟨h1, h2⟩ := fold_one x l _ h
    obtain ⟨h3, h4⟩ := and_one h1
    exact ⟨h3, fun n hn => (List.mem_cons.1 hn).elim (fun e => e ▸ h4) (h2 n)⟩

/-- If the `and` of a whole array of bits is one, every bit of the array is. -/
theorem reduce_one {s u : Shape} {axes : List (Fin s.rank)} (x : s.Idx → BitVec 1) (v : u.Idx → BitVec 1)
    (h : s.ReducesTo axes S_) (hu : 0 < u.numel) (j : S_.Idx) (e : Host.reduce IntOp.andi x v h hu j = 1#1) (i : s.Idx) : x i = 1#1 := by
  have hm : s.rowMajor i ∈ (List.finRange s.numel).filter fun n => h.drop (s.rowMajor.symm n) = j :=
    List.mem_filter.2 ⟨List.mem_finRange _, decide_eq_true (funext fun a => a.elim0)⟩
  have := (fold_one _ _ _ e).2 _ hm
  rwa [Equiv.symm_apply_apply] at this

section

variable [Cert.Pre_drawn.Facts] {F : FTy → Type} [FloatOps F]
variable {a0 : FVec F S100000x16 .f32} {a1 : FVec F S131072x16 .f32} {a2 : FVec F S3200000 .f32}
variable {a3 : IVec S100000 32} {a4 : IVec S100000x32 32} {a5 : IVec S100000x32 32}

/-- Every child number is a row of the table, -/
theorem child (h : fn a0 a1 a2 a3 a4 a5 = fun _ => 1#1) (j : S100000x32.Idx) : (a4 j).toNat < 131072 := by
  have e := and_one (and_one (congrFun h (fun a => a.elim0))).1
  have e' := reduce_one _ _ _ _ _ e.1 j
  have e'' : IntOp.andi (IntOp.cmpi .sge (a4 j) 0#32) (IntOp.cmpi .slt (a4 j) (BitVec.ofNat 32 131072)) = 1#1 := e'
  rw [andi_sge_zero_slt_ofNat (by decide)] at e''
  by_contra hn
  rw [decide_eq_false hn] at e''
  exact absurd e'' (by decide)

/-- every node number is its place, -/
theorem node (h : fn a0 a1 a2 a3 a4 a5 = fun _ => 1#1) (i : S100000.Idx) : a3 i = BitVec.ofNat 32 (i 0).val := by
  have e := and_one (and_one (congrFun h (fun a => a.elim0))).1
  have e' := reduce_one _ _ _ _ _ e.2 i
  have e'' : IntOp.cmpi .eq (a3 i) (BitVec.ofNat 32 (i 0).val) = 1#1 := e'
  rw [cmpi_eq_eq] at e''
  by_contra hn
  rw [decide_eq_false hn] at e''
  exact absurd e'' (by decide)

/-- and every weight's place is its own, row after row. -/
theorem place (h : fn a0 a1 a2 a3 a4 a5 = fun _ => 1#1) (j : S100000x32.Idx) : a5 j = BitVec.ofNat 32 ((j 0).val * 32 + (j 1).val) := by
  have hj0 : (j 0).val < 100000 := (j 0).isLt
  have hj1 : (j 1).val < 32 := (j 1).isLt
  have e := and_one (congrFun h (fun a => a.elim0))
  have e' := reduce_one _ _ _ _ _ e.2 (ix1 ⟨(j 0).val * 32 + (j 1).val, by omega⟩)
  have hk : shapeCast S3200000 a5 shapeCasts_S100000x32_S3200000 (ix1 ⟨(j 0).val * 32 + (j 1).val, by omega⟩) = a5 j :=
    shapeCast_apply _ _ _ _ (by rw [Shape.rowMajor_val_two, Shape.rowMajor_val_one]; rfl)
  have e'' : IntOp.cmpi .eq (shapeCast S3200000 a5 shapeCasts_S100000x32_S3200000 (ix1 ⟨(j 0).val * 32 + (j 1).val, by omega⟩))
      (BitVec.ofNat 32 ((j 0).val * 32 + (j 1).val)) = 1#1 := e'
  rw [hk, cmpi_eq_eq] at e''
  by_contra hn
  rw [decide_eq_false hn] at e''
  exact absurd e'' (by decide)

end

end Cert.Proof.Drawn

end
-- ==== Proof.Frames.lean ====
/-
  The frames: the program as printed for bits and as printed for extended reals each run to the end from any memory the
  precondition admits, leave the six arguments as they were and every semaphore at zero; and so does the reference.
-/
module

public import proofs.«01_k».proof.Proof.Drawn
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem
open Cert.Proof.Tile

/-- The facts the programs and the precondition state, as the generated modules prove them. -/
abbrev fK : Cert.Kernel.Facts := Cert.Kernel.Gen.facts
abbrev fI : Cert.KernelIdeal.Facts := Cert.KernelIdeal.Gen.facts
abbrev fR : Cert.ReferenceIdeal.Facts := Cert.ReferenceIdeal.Gen.facts
abbrev fP : Cert.Pre_drawn.Facts := Cert.Pre_drawn.Gen.facts

section

variable {F : FTy → Type} [FloatOps F]
variable (m : (ℓ : Loc Cert.KernelIdeal.nD Cert.KernelIdeal.τ Cert.KernelIdeal.sig) → Buf (Elt F) ℓ)

/-- At the end of a run of the program each argument is what it was. -/
theorem args_of_QC {r} (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) := by
  have k : ∀ b ∈ S9, b ∉ ({v2'} : Finset _) → b ∉ ({v1'} : Finset _) → b ∉ ({v0'} : Finset _) → r.2.mem (c, b) = m (c, b) :=
    fun b hb h0 h1 h2 => (h.1 c b hb).trans (V3_ne m c b h0 h1 h2)
  exact ⟨k a0' (by decide) (by decide) (by decide) (by decide), k a1' (by decide) (by decide) (by decide) (by decide),
    k a2' (by decide) (by decide) (by decide) (by decide), k a3' (by decide) (by decide) (by decide) (by decide),
    k a4' (by decide) (by decide) (by decide) (by decide), k a5' (by decide) (by decide) (by decide) (by decide)⟩

/-- At the end of a run of the program the result is `resD`. -/
theorem result_of_QC {r} (h : QC m r) (c : Dev Cert.KernelIdeal.nD) :
    r.2.mem ((c.tc : Thread Cert.KernelIdeal.nD Cert.KernelIdeal.τ).loc Cert.KernelIdeal.main_v2) = resD m c :=
  (h.1 c v2' (by decide)).trans (V3_v2 m c)

end

/-- The program over the extended reals: it runs, keeps its arguments, and leaves every semaphore at zero. -/
theorem frame_KernelIdeal : Cert.quiescent_KernelIdeal (hKernelIdeal := fI) (hPre_drawn := fP) := fun m ρ hpre =>
  (θ_run Cert.KernelIdeal.defs _ _).mono (fun _ h => ⟨args_of_QC m h, h.2⟩)
    (run_main (F := Ideal) m ρ fun d j => Drawn.child (hpre d) j)

/-- The program over bits: the same text, the same run. -/
theorem frame_Kernel : Cert.quiescent_Kernel (hKernel := fK) (hPre_drawn := fP) := fun m ρ hpre =>
  (θ_run Cert.KernelIdeal.defs _ _).mono (fun _ h => ⟨args_of_QC (F := Bits) m h, h.2⟩)
    (run_main (F := Bits) m ρ fun d j => Drawn.child (hpre d) j)

/-- The reference: it runs, keeps its arguments, and has no semaphore. -/
theorem frame_ReferenceIdeal : Cert.quiescent_ReferenceIdeal (hReferenceIdeal := fR) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Tree.lean ====
/-
  One node's sixteen results over the extended reals: the kernel folds the 32 rows pairwise, level by level; over the
  extended reals that is the supremum and the sum over the 32 children, in any order.
-/
module

public import proofs.«01_k».proof.Proof.Frames
public import Idealize.ShloMosaic.Lib.ValueLayout

@[expose] public section

noncomputable section

namespace Cert.Proof.Tile

open Cert.KernelIdeal Cert.KernelIdeal.Gen
open Idealize.ShloMosaic
open Idealize.ShloMosaic.ValueIdx (ix1 ix2 ix3 eq_ix1 eq_ix2 eq_ix3)

/-! ## A pairwise fold -/

/-- The first `2 ^ k` of the `x`s folded pairwise, neighbours first. -/
def tree {α : Type} (op : α → α → α) : ℕ → (ℕ → α) → α
  | 0, x => x 0
  | k + 1, x => tree op k fun i => op (x (2 * i)) (x (2 * i + 1))

/-- A pairwise fold of functions, read at a point, is the pairwise fold of their values there. -/
theorem tree_apply {ι α : Type} (op : (ι → α) → (ι → α) → ι → α) (op' : α → α → α) (i : ι)
    (h : ∀ f g, op f g i = op' (f i) (g i)) : ∀ (k : ℕ) (x : ℕ → ι → α), tree op k x i = tree op' k fun n => x n i
  | 0, _ => rfl
  | k + 1, x => (tree_apply op op' i h k _).trans (congrArg (tree op' k) (funext fun _ => h _ _))

/-- A sum over an even number of places is the sum of the sums of neighbours. -/
theorem sum_pairs (x : ℕ → EReal) : ∀ n, ∑ i ∈ Finset.range (2 * n), x i = ∑ i ∈ Finset.range n, (x (2 * i) + x (2 * i + 1))
  | 0 => rfl
  | n + 1 => by
    rw [show 2 * (n + 1) = 2 * n + 1 + 1 by omega, Finset.sum_range_succ, Finset.sum_range_succ, Finset.sum_range_succ, sum_pairs x n, add_assoc]

/-- So is a supremum. -/
theorem sup_pairs (x : ℕ → EReal) : ∀ n, (Finset.range (2 * n)).sup x = (Finset.range n).sup fun i => max (x (2 * i)) (x (2 * i + 1))
  | 0 => rfl
  | n + 1 => by
    rw [show 2 * (n + 1) = 2 * n + 1 + 1 by omega, Finset.range_add_one, Finset.range_add_one, Finset.range_add_one, Finset.sup_insert,
      Finset.sup_insert, Finset.sup_insert, sup_pairs x n]
    exact (sup_left_comm _ _ _).trans (sup_assoc _ _ _).symm

/-- The pairwise sum is the sum, -/
theorem tree_add : ∀ (k : ℕ) (x : ℕ → EReal), tree (fun a b => a + b) k x = ∑ i ∈ Finset.range (2 ^ k), x i
  | 0, x => (Finset.sum_range_one x).symm
  | k + 1, x => by rw [tree, tree_add k, pow_succ', sum_pairs]

/-- and the pairwise maximum the supremum. -/
theorem tree_max : ∀ (k : ℕ) (x : ℕ → EReal), tree max k x = (Finset.range (2 ^ k)).sup x
  | 0, x => by simp [tree]
  | k + 1, x => by rw [tree, tree_max k, pow_succ', sup_pairs]

/-! ## A node's results as pairwise folds -/

section Any

variable {F : FTy → Type} [FloatOps F]

/-- Row `n` of a node's 32, as a vector of sixteen. -/
def rowT (r : Fin 32 → Vec F S1x1x16 .f32) (n : ℕ) : FVec F S16 .f32 :=
  shapeCast S16 (r ⟨n % 32, Nat.mod_lt _ (by decide)⟩) shapeCasts_S1x1x16_S16

theorem slices_lane (n : ℕ) : S16.Slices ![n % 16] S1 :=
  ⟨rfl, fun a => by
    have : n % 16 < 16 := Nat.mod_lt _ (by decide)
    match a with
    | ⟨0, _⟩ => show n % 16 + 1 ≤ 16; omega⟩

/-- Weight `n` of a node's 32. -/
def weightT (w0 w1 : Vec F S1x16 .f32) (n : ℕ) : F .f32 :=
  extractAt ![0] (extractStridedSlice S1 ![n % 16] (shapeCast S16 (if n < 16 then w0 else w1) shapeCasts_S1x16_S16) (slices_lane n)) inpos_S1_p0

/-- The node's largest entries, column by column. -/
def maxT (r : Fin 32 → Vec F S1x1x16 .f32) : FVec F S16 .f32 := tree maximumf 5 (rowT r)

/-- The weighted exponential of row `n`. -/
def termT (r : Fin 32 → Vec F S1x1x16 .f32) (w0 w1 : Vec F S1x16 .f32) (n : ℕ) : FVec F S16 .f32 :=
  mulf (broadcast S16 (weightT w0 w1 n)) (exp (subf (rowT r n) (maxT r)))

set_option maxRecDepth 8192 in
/-- A node's results: the logarithm of the pairwise sum of the weighted exponentials, and the pairwise maximum added. -/
theorem nodeOut_tree (r : Fin 32 → Vec F S1x1x16 .f32) (w0 w1 : Vec F S1x16 .f32) :
    nodeOut r w0 w1 = shapeCast S1x16 (addf (log (maximumf (tree addf 5 (termT r w0 w1)) (broadcast S16 (Scalar.ofBits .f32 0x0DA24260#32)))) (maxT r))
      shapeCasts_S16_S1x16 := rfl

/-- Row `n` at a column, as it lies in the row, -/
theorem rowT_apply (r : Fin 32 → Vec F S1x1x16 .f32) (n : ℕ) (l : Fin 16) :
    rowT r n (ix1 l) = r ⟨n % 32, Nat.mod_lt _ (by decide)⟩ (ix3 (0 : Fin 1) (0 : Fin 1) l) :=
  shapeCast_apply _ _ _ _ (by rw [Shape.rowMajor_val_three, Shape.rowMajor_val_one]; show (0 * 1 + 0) * 16 + l.val = l.val; omega)

/-- and weight `n` as it lies in its half. -/
theorem weightT_apply (w0 w1 : Vec F S1x16 .f32) (n : ℕ) :
    weightT w0 w1 n = (if n < 16 then w0 else w1) (ix2 (0 : Fin 1) (⟨n % 16, Nat.mod_lt _ (by decide)⟩ : Fin 16)) :=
  shapeCast_apply _ _ _ _ (by
    rw [Shape.rowMajor_val_two, Shape.rowMajor_val_one]; show 0 * 16 + n % 16 = n % 16 + 0; omega)

end Any

/-! ## Over the extended reals -/

/-- The logarithm of the weighted sum of the exponentials of 32 entries, in the form that subtracts the largest first. -/
def lse (X W : Fin 32 → EReal) : EReal :=
  Ideal.log (max (∑ c, W c * Ideal.exp (X c - Finset.univ.sup X)) (Ideal.ofBits .f32 0x0DA24260#32)) + Finset.univ.sup X

/-- A supremum over the first 32 numbers is one over the 32 children. -/
theorem sup_range (x : ℕ → EReal) : (Finset.range 32).sup x = Finset.univ.sup fun c : Fin 32 => x c.val :=
  le_antisymm (Finset.sup_le fun i hi => Finset.le_sup (f := fun c : Fin 32 => x c.val) (Finset.mem_univ ⟨i, Finset.mem_range.1 hi⟩))
    (Finset.sup_le fun c _ => Finset.le_sup (f := x) (Finset.mem_range.2 c.isLt))

/-- A node's largest entry in a column. -/
theorem maxT_apply (r : Fin 32 → Vec Ideal S1x1x16 .f32) (l : Fin 16) :
    maxT r (ix1 l) = Finset.univ.sup fun c : Fin 32 => (r c (ix3 (0 : Fin 1) (0 : Fin 1) l) : EReal) := by
  unfold maxT
  rw [tree_apply _ max (ix1 l) (fun _ _ => rfl), tree_max]
  exact (sup_range _).trans (Finset.sup_congr rfl fun c _ => (rowT_apply r c.val l).trans
    (congrArg (fun n => r n (ix3 (0 : Fin 1) (0 : Fin 1) l)) (Fin.ext (Nat.mod_eq_of_lt c.isLt))))

/-- A node's result in a column. -/
theorem nodeOut_apply (r : Fin 32 → Vec Ideal S1x1x16 .f32) (w0 w1 : Vec Ideal S1x16 .f32) (l : Fin 16) :
    nodeOut r w0 w1 (ix2 (0 : Fin 1) l)
      = lse (fun c => r c (ix3 (0 : Fin 1) (0 : Fin 1) l))
          (fun c => (if c.val < 16 then w0 else w1) (ix2 (0 : Fin 1) (⟨c.val % 16, Nat.mod_lt _ (by decide)⟩ : Fin 16))) := by
  rw [nodeOut_tree, ValueIdx.shapeCast_a_1a_apply]
  have hs : tree addf 5 (termT r w0 w1) (ix1 l)
      = ∑ c : Fin 32, ((if c.val < 16 then w0 else w1) (ix2 (0 : Fin 1) (⟨c.val % 16, Nat.mod_lt _ (by decide)⟩ : Fin 16)) : EReal)
          * Ideal.exp ((r c (ix3 (0 : Fin 1) (0 : Fin 1) l) : EReal) - Finset.univ.sup fun c : Fin 32 => (r c (ix3 (0 : Fin 1) (0 : Fin 1) l) : EReal)) := by
    rw [tree_apply _ (fun a b : EReal => a + b) (ix1 l) (fun _ _ => rfl), tree_add]
    refine (Finset.sum_range _).trans (Finset.sum_congr rfl fun c _ => ?_)
    show (weightT w0 w1 c.val : EReal) * Ideal.exp ((rowT r c.val (ix1 l) : EReal) - maxT r (ix1 l)) = _
    rw [weightT_apply, rowT_apply, maxT_apply, show (⟨c.val % 32, Nat.mod_lt _ (by decide)⟩ : Fin 32) = c from Fin.ext (Nat.mod_eq_of_lt c.isLt)]
  show Ideal.log (max (tree addf 5 (termT r w0 w1) (ix1 l) : EReal) (Ideal.ofBits .f32 0x0DA24260#32)) + maxT r (ix1 l) = _
  rw [hs, maxT_apply]
  rfl

end Cert.Proof.Tile

end
-- ==== Proof.RefValue.lean ====
/-
  The reference's result at one node and one column: the gathers read the rows and the weights the indices name, the
  reductions run over the 32 children, and the scatter puts every node's results at its own place.
-/
module

public import proofs.«01_k».proof.Proof.Tree
public import Idealize.ShloMosaic.Lib.Pointwise
public import Idealize.ShloMosaic.Lib.Routing.OpsSet

@[expose] public section

noncomputable section

namespace Cert.Proof.Ref

open Cert.ReferenceIdeal Cert.ReferenceIdeal.Gen
open Idealize.ShloMosaic hiding ix1 ix2 ix3 eq_ix1 eq_ix2 eq_ix3
open Idealize.ShloMosaic.ValueIdx (ix1 ix2 ix3 eq_ix1 eq_ix2 eq_ix3)

/-- A word below half its range reads as a signed number as it does as an unsigned one. -/
theorem toInt_of_lt (x : BitVec 32) (h : x.toNat < 2147483648) : x.toInt = (x.toNat : ℤ) :=
  BitVec.toInt_eq_toNat_of_lt (by omega)

/-- The dimensions of the gather of rows and of the scatter. -/
abbrev gR := gather_S131072x16_S100000x32x1_S100000x32x16_2_0_n_n_0_2_116
abbrev sN := scatter_S100000x16_S100000x1_S100000x16_1_0_0_1

section Any

variable {α : Type}

/-- The gather of rows: the row its index names, at the same column. -/
theorem rows_apply (x : S131072x16.Idx → α) (idx : IVec S100000x32x1 32) (N : Fin 100000) (k : Fin 32) (l : Fin 16)
    (h : (idx (ix3 N k (0 : Fin 1))).toNat < 131072) :
    Host.gather gather_S131072x16_S100000x32x1_S100000x32x16_2_0_n_n_0_2_116 x idx (ix3 N k l) = x (ix2 ⟨_, h⟩ l) := by
  unfold Host.gather
  refine congrArg x (funext fun a => Fin.ext ?_)
  match a with
  | ⟨0, _⟩ =>
    show gR.start (ix3 N k l) idx 0 + gR.batchCoord (ix3 N k l) 0 + gR.offCoord (ix3 N k l) 0 = _
    rw [GatherDims.batchCoord_eq_zero _ _ _ List.not_mem_nil,
      GatherDims.offCoord_eq_zero _ _ _ fun q => ((GatherDims.mem_sKept _ _).1 q).1 (List.mem_singleton.2 rfl)]
    unfold GatherDims.start
    rw [dif_pos (show (0 : Fin 2) ∈ gR.startIndexMap from List.mem_singleton.2 rfl)]
    have e : ∀ p, gR.siIdx (ix3 N k l) ⟨0, p⟩ = ix3 N k (0 : Fin 1) := fun p =>
      funext fun b => Fin.ext (match b with | ⟨0, _⟩ => rfl | ⟨1, _⟩ => rfl | ⟨2, _⟩ => rfl)
    refine (congrArg (fun j => min (idx j).toInt.toNat (131072 - 1) + 0 + 0) (e (by decide))).trans ?_
    show min (idx (ix3 N k (0 : Fin 1))).toInt.toNat (131072 - 1) + 0 + 0 = (idx (ix3 N k (0 : Fin 1))).toNat
    rw [toInt_of_lt _ (by omega)]
    omega
  | ⟨1, _⟩ =>
    show gR.start (ix3 N k l) idx 1 + gR.batchCoord (ix3 N k l) 1 + gR.offCoord (ix3 N k l) 1 = l.val
    have b0 : gR.start (ix3 N k l) idx 1 = 0 := by
      unfold GatherDims.start
      exact dif_neg (show (1 : Fin 2) ∉ [(0 : Fin 2)] by decide)
    have b1 : gR.offCoord (ix3 N k l) 1 = l.val := by
      unfold GatherDims.offCoord
      exact dif_pos ((GatherDims.mem_sKept _ _).2 ⟨show (1 : Fin 2) ∉ [(0 : Fin 2)] by decide, List.not_mem_nil⟩)
    rw [b0, b1, GatherDims.batchCoord_eq_zero _ _ _ List.not_mem_nil, Nat.add_zero, Nat.zero_add]

/-- The gather of weights: the weight its index names. -/
theorem flat_apply (x : S3200000.Idx → α) (idx : IVec S100000x32x1 32) (N : Fin 100000) (k : Fin 32)
    (h : (idx (ix3 N k (0 : Fin 1))).toNat < 3200000) :
    Host.gather gather_S3200000_S100000x32x1_S100000x32_n_0_n_n_0_2_1 x idx (ix2 N k) = x (ix1 ⟨_, h⟩) := by
  refine (ValueIdx.gather_take_apply (N := 3200000) (by decide) _ x idx (ix2 N k)).trans (congrArg x (congrArg ix1 (Fin.ext ?_)))
  have e : ValueIdx.takeIdx (ix2 N k) = ix3 N k (0 : Fin 1) := funext fun b => match b with | ⟨0, _⟩ => rfl | ⟨1, _⟩ => rfl | ⟨2, _⟩ => rfl
  show min (idx (ValueIdx.takeIdx (ix2 N k))).toInt.toNat (3200000 - 1) = (idx (ix3 N k (0 : Fin 1))).toNat
  rw [e, toInt_of_lt _ (by omega)]
  omega

/-- Where an update of the scatter lands, its node numbers being the nodes' places: at its own place. -/
theorem lands (idx : IVec S100000x1 32) (h : ∀ n : Fin 100000, idx (ix2 n (0 : Fin 1)) = BitVec.ofNat 32 n.val) (u : S100000x16.Idx)
    (N : Fin 100000) (l : Fin 16) :
    sN.resultIdx? u idx = some (ix2 N l) ↔ u = ix2 N l := by
  have hu : (u 0).val < 100000 := (u 0).isLt
  have e : ∀ p, sN.siIdx u ⟨0, p⟩ = ix2 (u 0) (0 : Fin 1) := fun p =>
    funext fun b => Fin.ext (match b with | ⟨0, _⟩ => rfl | ⟨1, _⟩ => rfl)
  have s0 : sN.start u idx (0 : Fin 2) = ((u 0).val : ℤ) := by
    unfold ScatterDims.start
    rw [dif_pos (show (0 : Fin 2) ∈ sN.scatterDimsToOperandDims from List.mem_singleton.2 rfl)]
    refine (congrArg (fun j => (idx j).toInt) (e (by decide))).trans ?_
    have hn : (BitVec.ofNat 32 (u 0).val).toNat = (u 0).val := by rw [BitVec.toNat_ofNat]; exact Nat.mod_eq_of_lt (by omega)
    refine (congrArg BitVec.toInt (h (u 0))).trans ?_
    rw [toInt_of_lt _ (by omega), hn]
  have s1 : sN.start u idx (1 : Fin 2) = 0 := by
    unfold ScatterDims.start
    exact dif_neg (show (1 : Fin 2) ∉ [(0 : Fin 2)] by decide)
  have w0 : sN.window u (0 : Fin 2) = 0 := by
    unfold ScatterDims.window
    exact dif_neg (by decide)
  have w1 : sN.window u (1 : Fin 2) = (u 1).val := by
    unfold ScatterDims.window
    rw [dif_pos (by decide)]
    rfl
  rw [Routing.resultIdx?_ix2, s0, s1, w0, w1]
  constructor
  · intro q
    refine funext fun a => Fin.ext ?_
    match a with
    | ⟨0, _⟩ => show (u 0).val = N.val; omega
    | ⟨1, _⟩ => show (u 1).val = l.val; omega
  · rintro rfl
    exact ⟨Int.add_zero _, Int.zero_add _⟩

/-- The scatter at a place: the update there. -/
theorem scatter_apply (x : S100000x16.Idx → α) (idx : IVec S100000x1 32) (upd : S100000x16.Idx → α)
    (h : ∀ n : Fin 100000, idx (ix2 n (0 : Fin 1)) = BitVec.ofNat 32 n.val) (N : Fin 100000) (l : Fin 16) :
    Host.scatter scatter_S100000x16_S100000x1_S100000x16_1_0_0_1 (fun _ b => b) x idx upd (ix2 N l) = upd (ix2 N l) :=
  Routing.scatter_set_hit _ _ _ _ _ _ (fun u hu => congrArg upd ((lands idx h u N l).1 hu)) _ ((lands idx h _ N l).2 rfl)

end Any

/-! ## Over the extended reals -/

/-- The reference's maximum over the children is a supremum. -/
theorem max_apply (G : FVec Ideal S100000x32x16 .f32) (N : Fin 100000) (l : Fin 16) :
    Host.reduce FloatOps.maximumf G (constant S_ .f32 0xFF800000#32) reducesTo_S100000x32x16_S100000x16_d1 h_S_ (ix2 N l)
      = Finset.univ.sup fun k : Fin 32 => (G (ix3 N k l) : EReal) := by
  have e : Ideal.ofBits .f32 0xFF800000#32 = ⊥ := by simp [Ideal.ofBits, Ideal.ieee]
  rw [Ideal.maximumf_eq_max, Host.reduce_eq_fold, Shape.ReducesTo.fold_fiber_r3_a1]
  show Finset.fold max (Ideal.ofBits .f32 0xFF800000#32) _ _ = _
  rw [e]
  rfl

/-- Its sum over the children is the sum. -/
theorem sum_apply (T : FVec Ideal S100000x32x16 .f32) (N : Fin 100000) (l : Fin 16) :
    Host.reduceAdd T (constant S_ .f32 0x00000000#32) reducesTo_S100000x32x16_S100000x16_d1 h_S_ (ix2 N l) = ∑ k : Fin 32, (T (ix3 N k l) : EReal) := by
  have e : Ideal.ofBits .f32 0x00000000#32 = 0 := by simp [Ideal.ofBits, Ideal.ieee]
  refine (Ideal.hostReduceAdd_r3_a1 _ _ _ _).trans ?_
  refine (congrArg (· + _) (show _ = (0 : EReal) from e)).trans ((zero_add _).trans ?_)
  rfl

/-- What the reference makes of the gathered rows `G` and weights `P`, before the scatter. -/
def body (G : FVec Ideal S100000x32x16 .f32) (P : FVec Ideal S100000x32 .f32) : FVec Ideal S100000x16 .f32 :=
  addf (Host.log (maximumf (Host.reduceAdd (mulf (broadcastInDim S100000x32x16 ![0, 1, 2] bcast_S100000x32x1_S100000x32x16_0_1_2 (broadcastInDim S100000x32x1 ![0, 1] bcast_S100000x32_S100000x32x1_0_1 P)) (Host.exp (subf G (broadcastInDim S100000x32x16 ![0, 1, 2] bcast_S100000x1x16_S100000x32x16_0_1_2 (broadcastInDim S100000x1x16 ![0, 2] bcast_S100000x16_S100000x1x16_0_2 (Host.reduce FloatOps.maximumf G (constant S_ .f32 0xFF800000#32) reducesTo_S100000x32x16_S100000x16_d1 h_S_)))))) (constant S_ .f32 0x00000000#32) reducesTo_S100000x32x16_S100000x16_d1 h_S_) (broadcastInDim S100000x16 ![] bcast_S_S100000x16 (constant S_ .f32 0x0DA24260#32)))) (shapeCast _ (broadcastInDim S100000x1x16 ![0, 2] bcast_S100000x16_S100000x1x16_0_2 (Host.reduce FloatOps.maximumf G (constant S_ .f32 0xFF800000#32) reducesTo_S100000x32x16_S100000x16_d1 h_S_)) shapeCasts_S100000x1x16_S100000x16)

/-- A column's maxima, repeated for every child, at a child. -/
theorem spread_apply (M : FVec Ideal S100000x16 .f32) (N : Fin 100000) (u : Fin 1) (l : Fin 16) :
    broadcastInDim S100000x1x16 ![0, 2] bcast_S100000x16_S100000x1x16_0_2 M (ix3 N u l) = M (ix2 N l) :=
  congrArg M (funext fun a => Fin.ext (match a with | ⟨0, _⟩ => rfl | ⟨1, _⟩ => rfl))

theorem spread_child (M : FVec Ideal S100000x1x16 .f32) (N : Fin 100000) (k : Fin 32) (l : Fin 16) :
    broadcastInDim S100000x32x16 ![0, 1, 2] bcast_S100000x1x16_S100000x32x16_0_1_2 M (ix3 N k l) = M (ix3 N (0 : Fin 1) l) :=
  congrArg M (funext fun a => Fin.ext (match a with | ⟨0, _⟩ => rfl | ⟨1, _⟩ => rfl | ⟨2, _⟩ => rfl))

/-- A child's weight, repeated for every column, at a column. -/
theorem spread_weight (P : FVec Ideal S100000x32 .f32) (N : Fin 100000) (k : Fin 32) (l : Fin 16) :
    broadcastInDim S100000x32x16 ![0, 1, 2] bcast_S100000x32x1_S100000x32x16_0_1_2 (broadcastInDim S100000x32x1 ![0, 1] bcast_S100000x32_S100000x32x1_0_1 P) (ix3 N k l)
      = P (ix2 N k) :=
  congrArg P (funext fun a => Fin.ext (match a with | ⟨0, _⟩ => rfl | ⟨1, _⟩ => rfl))

/-- It is the logarithm of the weighted sum of the exponentials. -/
theorem body_apply (G : FVec Ideal S100000x32x16 .f32) (P : FVec Ideal S100000x32 .f32) (N : Fin 100000) (l : Fin 16) :
    body G P (ix2 N l) = Tile.lse (fun k => G (ix3 N k l)) (fun k => P (ix2 N k)) := by
  have hm := max_apply G N l
  unfold body
  generalize Host.reduce FloatOps.maximumf G (constant S_ .f32 0xFF800000#32) reducesTo_S100000x32x16_S100000x16_d1 h_S_ = M at hm ⊢
  have hc : shapeCast S100000x16 (broadcastInDim S100000x1x16 ![0, 2] bcast_S100000x16_S100000x1x16_0_2 M) shapeCasts_S100000x1x16_S100000x16 (ix2 N l)
      = M (ix2 N l) :=
    (shapeCast_apply _ _ _ (ix3 N (0 : Fin 1) l) (by
      rw [Shape.rowMajor_val_three, Shape.rowMajor_val_two]; show (N.val * 1 + 0) * 16 + l.val = N.val * 16 + l.val; omega)).trans (spread_apply M N 0 l)
  have hs := sum_apply (mulf (broadcastInDim S100000x32x16 ![0, 1, 2] bcast_S100000x32x1_S100000x32x16_0_1_2 (broadcastInDim S100000x32x1 ![0, 1] bcast_S100000x32_S100000x32x1_0_1 P)) (Host.exp (subf G (broadcastInDim S100000x32x16 ![0, 1, 2] bcast_S100000x1x16_S100000x32x16_0_1_2 (broadcastInDim S100000x1x16 ![0, 2] bcast_S100000x16_S100000x1x16_0_2 M))))) N l
  have ht : ∀ k : Fin 32, ((mulf (broadcastInDim S100000x32x16 ![0, 1, 2] bcast_S100000x32x1_S100000x32x16_0_1_2 (broadcastInDim S100000x32x1 ![0, 1] bcast_S100000x32_S100000x32x1_0_1 P)) (Host.exp (subf G (broadcastInDim S100000x32x16 ![0, 1, 2] bcast_S100000x1x16_S100000x32x16_0_1_2 (broadcastInDim S100000x1x16 ![0, 2] bcast_S100000x16_S100000x1x16_0_2 M))))) (ix3 N k l) : EReal)
      = P (ix2 N k) * Ideal.exp ((G (ix3 N k l) : EReal) - Finset.univ.sup fun k : Fin 32 => (G (ix3 N k l) : EReal)) := fun k =>
    congrArg₂ (fun a b : EReal => a * Ideal.exp ((G (ix3 N k l) : EReal) - b)) (spread_weight P N k l)
      ((spread_child _ N k l).trans ((spread_apply M N 0 l).trans hm))
  replace hs := hs.trans (Finset.sum_congr rfl fun k _ => ht k)
  have hk : (broadcastInDim S100000x16 ![] bcast_S_S100000x16 (constant S_ .f32 0x0DA24260#32) : FVec Ideal S100000x16 .f32) (ix2 N l)
      = (FloatOps.ofBits .f32 0x0DA24260#32 : Ideal .f32) := rfl
  have hk' : (FloatOps.ofBits .f32 0x0DA24260#32 : Ideal .f32) = Ideal.ofBits .f32 0x0DA24260#32 := rfl
  have hg : ∀ A B C : FVec Ideal S100000x16 .f32, addf (Host.log (maximumf A B)) C (ix2 N l)
      = (Ideal.log (max (A (ix2 N l) : EReal) (B (ix2 N l))) + C (ix2 N l) : EReal) := fun _ _ _ => rfl
  rw [hg, hk, hk', hc, hm]
  unfold Tile.lse
  rw [← hs]

end Cert.Proof.Ref

end
-- ==== Proof.Algebraic.lean ====
/-
  The kernel's result equals the reference's over the extended reals: both are, at node `N` and column `l`, the
  logarithm of the weighted sum of the exponentials of the 32 children's entries in that column.
-/
module

public import proofs.«01_k».proof.Proof.RefValue

@[expose] public section

noncomputable section

namespace Cert.Proof

open Idealize.ShloMosaic hiding ix1 ix2 ix3 eq_ix1 eq_ix2 eq_ix3
open Idealize.SL.Sem
open Idealize.ShloMosaic.ValueIdx (ix1 ix2 ix3 eq_ix1 eq_ix2 eq_ix3)

/-! ## What both compute -/

section Spec

variable (el : (⟨2, ![131072, 16]⟩ : Shape).Idx → EReal) (pr : (⟨1, ![3200000]⟩ : Shape).Idx → EReal)
variable (ci : (⟨2, ![100000, 32]⟩ : Shape).Idx → BitVec 32)

/-- Node `N`, column `l`: over the rows the node's 32 child numbers name, weighted by the node's 32 weights. -/
def spec (N : Fin 100000) (l : Fin 16) : EReal :=
  Tile.lse (fun k => el (Tile.at2 (ci (ix2 N k)).toNat l)) (fun k => pr (Tile.at3 (N.val * 32 + k.val)))

end Spec

/-! ## The kernel -/

section Kernel

open Cert.KernelIdeal Cert.KernelIdeal.Gen Cert.Proof.Tile

variable (m : (ℓ : Loc nD τ sig) → Buf (Elt Ideal) ℓ)

/-- The flat child numbers, at a node's child. -/
theorem ciD_apply (d : Dev nD) (N : Fin 100000) (k : Fin 32) :
    ciD m d (at3 (N.val * 32 + k.val)) = (m (kLoc d) : S100000x32.Idx → BitVec 32) (ix2 N k) :=
  shapeCast_apply _ _ _ _ (by
    show (S100000x32.rowMajor (ix2 N k)).val = (S3200000.rowMajor (at3 (N.val * 32 + k.val))).val
    rw [Shape.rowMajor_val_two, Shape.rowMajor_val_one]
    exact (Nat.mod_eq_of_lt (show N.val * 32 + k.val < 3200000 by omega)).symm)

/-- The kernel's result at a node and a column. -/
theorem resD_apply (d : Dev nD) (N : Fin 100000) (l : Fin 16) :
    resD m d (ix2 N l) = spec (elD m d) (prD m d) (m (kLoc d) : S100000x32.Idx → BitVec 32) N l := by
  have h1 : resD m d (ix2 N l) = (outD m d : S1600000.Idx → Ideal .f32) (ix1 ⟨N.val * 16 + l.val, by omega⟩) :=
    shapeCast_apply _ _ _ _ (by
      show (S1600000.rowMajor (ix1 ⟨N.val * 16 + l.val, _⟩)).val = (S100000x16.rowMajor (ix2 N l)).val
      rw [Shape.rowMajor_val_two, Shape.rowMajor_val_one]; rfl)
  have hd : (N.val * 16 + l.val) / 16 = N.val := by omega
  have hl : (⟨(N.val * 16 + l.val) % 16, Nat.mod_lt _ (by decide)⟩ : Fin 16) = l := Fin.ext (by show (N.val * 16 + l.val) % 16 = l.val; omega)
  rw [h1, outD_eq]
  show nodeV (elD m d) (prD m d) (ciD m d) ((N.val * 16 + l.val) / 16) (ix2 (0 : Fin 1) (⟨(N.val * 16 + l.val) % 16, Nat.mod_lt _ (by decide)⟩ : Fin 16)) = _
  rw [hd, hl]
  unfold nodeV
  rw [nodeOut_apply]
  refine congrArg₂ lse (funext fun k => ?_) (funext fun k => ?_)
  · show elD m d (at2 (ciD m d (at3 (N.val * 32 + k.val))).toNat l) = _
    rw [ciD_apply]
  · have e : ∀ p q : ℕ, p = q → prD m d (at3 p) = prD m d (at3 q) := fun p q h => by rw [h]
    split
    · exact e _ _ (show N.val * 32 + 0 + k.val % 16 = N.val * 32 + k.val by omega)
    · exact e _ _ (show N.val * 32 + 16 + k.val % 16 = N.val * 32 + k.val by omega)

end Kernel

/-! ## The reference -/

section Reference

open Cert.ReferenceIdeal Cert.ReferenceIdeal.Gen

/-- The reference's result, of the six arguments. -/
def refOut (a0 : FVec Ideal S100000x16 .f32) (a1 : FVec Ideal S131072x16 .f32) (a2 : FVec Ideal S3200000 .f32) (a3 : IVec S100000 32)
    (a4 a5 : IVec S100000x32 32) : FVec Ideal S100000x16 .f32 :=
  Host.scatter scatter_S100000x16_S100000x1_S100000x16_1_0_0_1 (fun _ b => b) a0
    (broadcastInDim S100000x1 ![0] bcast_S100000_S100000x1_0 (select (cmpi .slt a3 (broadcastInDim S100000 ![] bcast_S_S100000 (constantI S_ 32 0#32))) (addi a3 (broadcastInDim S100000 ![] bcast_S_S100000 (constantI S_ 32 100000#32))) a3))
    (Ref.body
      (Host.gather gather_S131072x16_S100000x32x1_S100000x32x16_2_0_n_n_0_2_116 a1 (broadcastInDim S100000x32x1 ![0, 1] bcast_S100000x32_S100000x32x1_0_1 (select (cmpi .slt a4 (broadcastInDim S100000x32 ![] bcast_S_S100000x32 (constantI S_ 32 0#32))) (addi a4 (broadcastInDim S100000x32 ![] bcast_S_S100000x32 (constantI S_ 32 131072#32))) a4)))
      (Host.gather gather_S3200000_S100000x32x1_S100000x32_n_0_n_n_0_2_1 a2 (broadcastInDim S100000x32x1 ![0, 1] bcast_S100000x32_S100000x32x1_0_1 (select (cmpi .slt a5 (broadcastInDim S100000x32 ![] bcast_S_S100000x32 (constantI S_ 32 0#32))) (addi a5 (broadcastInDim S100000x32 ![] bcast_S_S100000x32 (constantI S_ 32 3200000#32))) a5))))

/-- An array of indices given a last axis of one, at a child, -/
theorem spread_word (x : IVec S100000x32 32) (N : Fin 100000) (k : Fin 32) :
    broadcastInDim S100000x32x1 ![0, 1] bcast_S100000x32_S100000x32x1_0_1 x (ix3 N k (0 : Fin 1)) = x (ix2 N k) :=
  congrArg x (funext fun b => Fin.ext (match b with | ⟨0, _⟩ => rfl | ⟨1, _⟩ => rfl))

/-- and the node numbers, at a node. -/
theorem spread_node (x : IVec S100000 32) (N : Fin 100000) :
    broadcastInDim S100000x1 ![0] bcast_S100000_S100000x1_0 x (ix2 N (0 : Fin 1)) = x (ix1 N) :=
  congrArg x (funext fun b => Fin.ext (match b with | ⟨0, _⟩ => rfl))

/-- An index that is not negative is not wrapped: of a table of nodes' indices, at a child, -/
theorem wrapped (x a : IVec S100000x32 32) (N : Fin 100000) (k : Fin 32) (h : (x (ix2 N k)).toNat < 2147483648) :
    broadcastInDim S100000x32x1 ![0, 1] bcast_S100000x32_S100000x32x1_0_1 (select (cmpi .slt x (broadcastInDim S100000x32 ![] bcast_S_S100000x32 (constantI S_ 32 0#32))) a x) (ix3 N k (0 : Fin 1))
      = x (ix2 N k) :=
  (spread_word _ N k).trans (Routing.wrap_of_lt _ _ h)

/-- and of the node numbers. -/
theorem wrapped_node (x a : IVec S100000 32) (N : Fin 100000) (h : (x (ix1 N)).toNat < 2147483648) :
    broadcastInDim S100000x1 ![0] bcast_S100000_S100000x1_0 (select (cmpi .slt x (broadcastInDim S100000 ![] bcast_S_S100000 (constantI S_ 32 0#32))) a x) (ix2 N (0 : Fin 1))
      = x (ix1 N) :=
  (spread_node _ N).trans (Routing.wrap_of_lt _ _ h)

variable {a0 : FVec Ideal S100000x16 .f32} {a1 : FVec Ideal S131072x16 .f32} {a2 : FVec Ideal S3200000 .f32}
variable {a3 : IVec S100000 32} {a4 a5 : IVec S100000x32 32}

/-- The reference's result at a node and a column, its indices being those drawn. -/
theorem refOut_apply (h : Cert.Pre_drawn.fn (F := Ideal) a0 a1 a2 a3 a4 a5 = fun _ => 1#1) (N : Fin 100000) (l : Fin 16) :
    refOut a0 a1 a2 a3 a4 a5 (ix2 N l) = spec a1 a2 a4 N l := by
  have h3 : ∀ n : Fin 100000, a3 (ix1 n) = BitVec.ofNat 32 n.val := fun n => Drawn.node h (ix1 n)
  have h4 : ∀ k : Fin 32, (a4 (ix2 N k)).toNat < 131072 := fun k => Drawn.child h (ix2 N k)
  have h5 : ∀ k : Fin 32, (a5 (ix2 N k)).toNat = N.val * 32 + k.val := fun k => by
    rw [Drawn.place h (ix2 N k), BitVec.toNat_ofNat]
    exact Nat.mod_eq_of_lt (show N.val * 32 + k.val < 2 ^ 32 by omega)
  unfold refOut
  rw [Ref.scatter_apply _ _ _ (fun n => (wrapped_node a3 _ n (by
    rw [h3, BitVec.toNat_ofNat]; exact lt_of_le_of_lt (Nat.mod_le _ _) (by omega))).trans (h3 n)), Ref.body_apply]
  refine congrArg₂ Tile.lse (funext fun k => ?_) (funext fun k => ?_)
  · have e := wrapped a4 (addi a4 (broadcastInDim S100000x32 ![] bcast_S_S100000x32 (constantI S_ 32 131072#32))) N k (by have := h4 k; omega)
    refine (Ref.rows_apply a1 _ N k l (by rw [e]; exact h4 k)).trans (congrArg a1 (congrArg (fun r => ix2 r l) (Fin.ext ?_)))
    exact (congrArg BitVec.toNat e).trans (Nat.mod_eq_of_lt (h4 k)).symm
  · have e := wrapped a5 (addi a5 (broadcastInDim S100000x32 ![] bcast_S_S100000x32 (constantI S_ 32 3200000#32))) N k (by rw [h5 k]; omega)
    refine (Ref.flat_apply a2 _ N k (by rw [e, h5 k]; omega)).trans (congrArg a2 (congrArg ix1 (Fin.ext ?_)))
    exact ((congrArg BitVec.toNat e).trans (h5 k)).trans (Nat.mod_eq_of_lt (by omega)).symm

end Reference

/-! ## The claims -/

/-- The reference's frame, of the inputs drawn: it holds of every input. -/
theorem frame_ReferenceIdeal_drawn : Cert.quiescent_ReferenceIdeal_pre_drawn (hReferenceIdeal := fR) (hPre_drawn := fP) :=
  fun m ρ _ => frame_ReferenceIdeal m ρ trivial

/-- Of the same arguments, drawn as the problem draws them, the two results are equal. -/
theorem results_eq (m : (ℓ : Loc Cert.KernelIdeal.nD Cert.KernelIdeal.τ Cert.KernelIdeal.sig) → Buf (Elt Ideal) ℓ)
    (hpre : Cert.Pre_KernelIdeal (hPre_drawn := fP) m) (c : Dev Cert.KernelIdeal.nD) :
    refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = Tile.resD m c :=
  funext fun i => by
    rw [eq_ix2 i]
    exact (refOut_apply (hpre c) _ _).trans (resD_apply m c _ _).symm

/-- From memories with the same arguments, drawn as the problem draws them, the program and the reference both run,
    both keep their arguments, and both leave the same result. -/
theorem algebraic : Cert.algebraic_KernelIdeal_ReferenceIdeal (hKernelIdeal := fI) (hReferenceIdeal := fR) (hPre_drawn := fP) :=
  fun m g m' g' hpre hm => ⟨fun c => Tile.resD m c,
    (θ_run Cert.KernelIdeal.defs _ _).mono (fun _ h c => ⟨result_of_QC m h c, args_of_QC m h c⟩)
      (Tile.run_main (F := Ideal) m g fun d j => Drawn.child (hpre d) j),
    (θ_run Cert.ReferenceIdeal.defs _ _).mono (fun _ h c => ⟨(h c).1.trans (by
        obtain ⟨e0, e1, e2, e3, e4, e5⟩ := hm c
        rw [e0, e1, e2, e3, e4, e5]
        exact results_eq m hpre c), (h c).2⟩)
      (Cert.ReferenceIdeal.Value.run (F := Ideal) m' g')⟩

end Cert.Proof

end
-- ==== Proof.lean ====
/-
  The claim: the kernel, over bits and over extended reals, and the reference each run to the end, keep their arguments
  and leave every semaphore at zero; and over extended reals the kernel's result is the reference's.
-/
module

public import proofs.«01_k».proof.Defs
public import proofs.«01_k».proof.Proof.Algebraic

@[expose] public section

noncomputable section

namespace Cert.Proof

/-- All that is claimed: the three frames (the reference's also of the inputs drawn), `preserves` and `algebraic`. -/
theorem claim : Cert.Claim :=
  ⟨fK, fI, fR, fP, frame_Kernel, frame_KernelIdeal, frame_ReferenceIdeal, frame_ReferenceIdeal_drawn, trivial, algebraic⟩

end Cert.Proof

end
